-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def holds_KernelIdeal_shares_pre_finite [hKernelIdeal : Cert.KernelIdeal.Facts] [hPre_finite : Cert.Pre_finite.Facts] [hPost_shares : Cert.Post_shares.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_shares.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_shares : Cert.Post_shares.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_shares_pre_finite (hKernelIdeal := hKernelIdeal) (hPre_finite := hPre_finite) (hPost_shares := hPost_shares)
-- ==== Post_shares.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S10x32 : Shape := ⟨2, ![10, 32]⟩
abbrev S10000x32 : Shape := ⟨2, ![10000, 32]⟩
abbrev S10000x10 : Shape := ⟨2, ![10000, 10]⟩
abbrev S_ : Shape := ⟨0, ![]⟩
abbrev S10000 : Shape := ⟨1, ![10000]⟩

class Facts : Prop where
  bcast_S_S10000x10 : S_.BroadcastsInDim S10000x10 (![] : Fin 0 → Fin S10000x10.rank)
  reducesTo_S10000x10_S_d0_1 : S10000x10.ReducesTo [0, 1] S_
  h_S_ : 0 < S_.numel
  reducesTo_S10000x10_S10000_d1 : S10000x10.ReducesTo [1] S10000
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S10000x128 .f32) (main_arg1 : FVec F S10000x10000 .f32) (main_arg2 : FVec F S128x32 .f32) (main_arg3 : FVec F S32 .f32) (main_arg4 : FVec F S10x32 .f32) (main_arg5 : FVec F S10000x32 .f32) (main_arg6 : FVec F S10000x10 .f32) : IVec S_ 1 :=
  let main_cst : FVec F S_ .f32 := constant S_ .f32 0x00000000#32
  let main_v0 : FVec F S10000x10 .f32 := broadcastInDim S10000x10 ![] bcast_S_S10000x10 main_cst
  let main_v1 : IVec S10000x10 1 := cmpf .oge main_arg6 main_v0
  let main_c : IVec S_ 1 := constantI S_ 1 1#1
  let main_v2 : IVec S_ 1 := (fun x v => Host.reduce IntOp.andi x v reducesTo_S10000x10_S_d0_1 h_S_) main_v1 main_c
  let main_cst_0 : FVec F S_ .f32 := constant S_ .f32 0x00000000#32
  let main_v3 : FVec F S10000 .f32 := (fun x v => Host.reduceAdd x v reducesTo_S10000x10_S10000_d1 h_S_) main_arg6 main_cst_0
  let main_cst_1 : FVec F S_ .f32 := constant S_ .f32 0x3F800000#32
  let main_v4 : FVec F S10000 .f32 := broadcastInDim S10000 ![] bcast_S_S10000 main_cst_1
  let main_v5 : IVec S10000 1 := cmpf .oeq main_v3 main_v4
  let main_c_2 : IVec S_ 1 := constantI S_ 1 1#1
  let main_v6 : IVec S_ 1 := (fun x v => Host.reduce IntOp.andi x v reducesTo_S10000_S_d0 h_S_) main_v5 main_c_2
  let main_v7 : IVec S_ 1 := andi main_v2 main_v6
  main_v7
-- ==== Pre_finite.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S10x32 : Shape := ⟨2, ![10, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S10x32 : S_.BroadcastsInDim S10x32 (![] : Fin 0 → Fin S10x32.rank)
  reducesTo_S10x32_S_d0_1 : S10x32.ReducesTo [0, 1] S_

variable [Facts]

def fn_part1 {F : FTy → Type} [FloatOps F] (main_arg4 : FVec F S10x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S10x32 .f32 := Host.absf main_arg4
  let main_cst_6 : FVec F S_ .f32 := constant S_ .f32 0x7F800000#32
  let main_v20 : FVec F S10x32 .f32 := broadcastInDim S10x32 ![] bcast_S_S10x32 main_cst_6
  let main_v21 : IVec S10x32 1 := cmpf .olt main_v19 main_v20
  let main_c_7 : IVec S_ 1 := constantI S_ 1 1#1
  let main_v22 : IVec S_ 1 := (fun x v => Host.reduce IntOp.andi x v reducesTo_S10x32_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x32 .f32) (main_arg3 : FVec F S32 .f32) (main_arg4 : FVec F S10x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S10x32 : Shape := ⟨2, ![10, 32]⟩
abbrev S1x32 : Shape := ⟨2, ![1, 32]⟩
abbrev S10000x32 : Shape := ⟨2, ![10000, 32]⟩
abbrev S10000x10 : Shape := ⟨2, ![10000, 10]⟩
abbrev S3x400x10000 : Shape := ⟨3, ![3, 400, 10000]⟩
abbrev S2x400x32 : Shape := ⟨3, ![2, 400, 32]⟩
abbrev S2x400x10 : Shape := ⟨3, ![2, 400, 10]⟩
abbrev S3 : Shape := ⟨1, ![3]⟩
abbrev S2 : Shape := ⟨1, ![2]⟩
abbrev S1 : Shape := ⟨1, ![1]⟩
abbrev S_ : Shape := ⟨0, ![]⟩
abbrev S1x400x10000 : Shape := ⟨3, ![1, 400, 10000]⟩
abbrev S400x10000 : Shape := ⟨2, ![400, 10000]⟩
abbrev S10 : Shape := ⟨1, ![10]⟩
abbrev S1x10 : Shape := ⟨2, ![1, 10]⟩
abbrev S400x32 : Shape := ⟨2, ![400, 32]⟩
abbrev S1x400x32 : Shape := ⟨3, ![1, 400, 32]⟩
abbrev S400x10 : Shape := ⟨2, ![400, 10]⟩
abbrev S1x400x10 : Shape := ⟨3, ![1, 400, 10]⟩
abbrev S400 : Shape := ⟨1, ![400]⟩
abbrev S400x1 : Shape := ⟨2, ![400, 1]⟩
abbrev S32x10 : Shape := ⟨2, ![32, 10]⟩

abbrev nBuf : Space → Nat
  | .hbm => 8
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S10x32, .f32⟩
  | .hbm, ⟨5, _⟩ => ⟨S1x32, .f32⟩
  | .hbm, ⟨6, _⟩ => ⟨S10000x32, .f32⟩
  | .hbm, ⟨7, _⟩ => ⟨S10000x10, .f32⟩
  | .local _ .vmem, ⟨0, _⟩ => ⟨S10000x128, .f32⟩
  | .local _ .vmem, ⟨1, _⟩ => ⟨S128x32, .f32⟩
  | .local _ .vmem, ⟨2, _⟩ => ⟨S1x32, .f32⟩
  | .local _ .vmem, ⟨3, _⟩ => ⟨S10x32, .f32⟩
  | .local _ .vmem, ⟨4, _⟩ => ⟨S3x400x10000, .f32⟩
  | .local _ .vmem, ⟨5, _⟩ => ⟨S10000x32, .f32⟩
  | .local _ .vmem, ⟨6, _⟩ => ⟨S2x400x32, .f32⟩
  | .local _ .vmem, ⟨7, _⟩ => ⟨S2x400x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_21 : BitVec 32 := 0#32
  let c25_i32 : BitVec 32 := 25#32
  let v25 : BitVec 32 := Scalar.addi c0_i32_21 c25_i32
  let c1_i32_22 : BitVec 32 := 1#32
  ⟨c0_i32_21, v25, c1_i32_22⟩
def k0_off1 (k0_t1 : Fin k0_t1_loop.trips) : Fin 1 → Nat :=
  let c0_i32_21 : BitVec 32 := 0#32
  let c1_i32_22 : BitVec 32 := 1#32
  let arg14 : BitVec 32 := Scf.iv c0_i32_21 c1_i32_22 k0_t1
  let c3_i32 : BitVec 32 := 3#32
  let c0_i32_46 : BitVec 32 := 0#32
  let v46 : BitVec 1 := Scalar.cmpi .eq c3_i32 c0_i32_46
  let c1_i32_47 : BitVec 32 := 1#32
  let v47 : BitVec 32 := Scalar.select v46 c1_i32_47 c3_i32
  let v48 : BitVec 32 := Scalar.remsi arg14 v47
  let c0_i32_49 : BitVec 32 := 0#32
  let v50 : BitVec 1 := Scalar.cmpi .slt v48 c0_i32_49
  let c0_i32_50 : BitVec 32 := 0#32
  let v51 : BitVec 1 := Scalar.cmpi .slt v47 c0_i32_50
  let v52 : BitVec 1 := Scalar.xori v50 v51
  let c0_i32_48 : BitVec 32 := 0#32
  let v49 : BitVec 1 := Scalar.cmpi .ne v48 c0_i32_48
  let v53 : BitVec 1 := Scalar.andi v52 v49
  let v54 : BitVec 32 := Scalar.addi v48 v47
  let v55 : BitVec 32 := Scalar.select v53 v54 v48
  ![v55.toNat]
def k0_off2 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c3_i32 : BitVec 32 := 3#32
  let c0_i32_46 : BitVec 32 := 0#32
  let v46 : BitVec 1 := Scalar.cmpi .eq c3_i32 c0_i32_46
  let c1_i32_47 : BitVec 32 := 1#32
  let v47 : BitVec 32 := Scalar.select v46 c1_i32_47 c3_i32
  let v48 : BitVec 32 := Scalar.remsi arg14 v47
  let c0_i32_49 : BitVec 32 := 0#32
  let v50 : BitVec 1 := Scalar.cmpi .slt v48 c0_i32_49
  let c0_i32_50 : BitVec 32 := 0#32
  let v51 : BitVec 1 := Scalar.cmpi .slt v47 c0_i32_50
  let v52 : BitVec 1 := Scalar.xori v50 v51
  let c0_i32_48 : BitVec 32 := 0#32
  let v49 : BitVec 1 := Scalar.cmpi .ne v48 c0_i32_48
  let v53 : BitVec 1 := Scalar.andi v52 v49
  let v54 : BitVec 32 := Scalar.addi v48 v47
  let v55 : BitVec 32 := Scalar.select v53 v54 v48
  let c0_i32_58 : BitVec 32 := 0#32
  let c0_i32_59 : BitVec 32 := 0#32
  ![v55.toNat, 0, 0]
def k0_off3 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let c400_i32_57 : BitVec 32 := 400#32
  let v66 : BitVec 32 := Scalar.muli arg14 c400_i32_57
  let c0_i32_60 : BitVec 32 := 0#32
  ![v66.toNat, 0]
def k0_off4 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c3_i32 : BitVec 32 := 3#32
  let c0_i32_46 : BitVec 32 := 0#32
  let v46 : BitVec 1 := Scalar.cmpi .eq c3_i32 c0_i32_46
  let c1_i32_47 : BitVec 32 := 1#32
  let v47 : BitVec 32 := Scalar.select v46 c1_i32_47 c3_i32
  let v48 : BitVec 32 := Scalar.remsi arg14 v47
  let c0_i32_49 : BitVec 32 := 0#32
  let v50 : BitVec 1 := Scalar.cmpi .slt v48 c0_i32_49
  let c0_i32_50 : BitVec 32 := 0#32
  let v51 : BitVec 1 := Scalar.cmpi .slt v47 c0_i32_50
  let v52 : BitVec 1 := Scalar.xori v50 v51
  let c0_i32_48 : BitVec 32 := 0#32
  let v49 : BitVec 1 := Scalar.cmpi .ne v48 c0_i32_48
  let v53 : BitVec 1 := Scalar.andi v52 v49
  let v54 : BitVec 32 := Scalar.addi v48 v47
  let v55 : BitVec 32 := Scalar.select v53 v54 v48
  let v72 : Index := Scalar.indexCast v55
  let c0_61 : Index := 0#32
  let c0_62 : Index := 0#32
  ![v72.toNat, 0, 0]
def k0_cond1 (k0_t1 : Fin k0_t1_loop.trips) : BitVec 1 :=
  let c0_i32_21 : BitVec 32 := 0#32
  let c1_i32_22 : BitVec 32 := 1#32
  let arg14 : BitVec 32 := Scf.iv c0_i32_21 c1_i32_22 k0_t1
  let c3_i32_68 : BitVec 32 := 3#32
  let v81 : BitVec 32 := Scalar.addi arg14 c3_i32_68
  let c25_i32_69 : BitVec 32 := 25#32
  let v82 : BitVec 1 := Scalar.cmpi .slt v81 c25_i32_69
  let v83 : BitVec 32 := Scalar.extui v82
  let c0_i32_70 : BitVec 32 := 0#32
  let v84 : BitVec 1 := Scalar.cmpi .ne v83 c0_i32_70
  v84

def k0_off5 (k0_t1 : Fin k0_t1_loop.trips) : Fin 1 → Nat :=
  let c0_i32_21 : BitVec 32 := 0#32
  let c1_i32_22 : BitVec 32 := 1#32
  let arg14 : BitVec 32 := Scf.iv c0_i32_21 c1_i32_22 k0_t1
  let c3_i32 : BitVec 32 := 3#32
  let c0_i32_46 : BitVec 32 := 0#32
  let v46 : BitVec 1 := Scalar.cmpi .eq c3_i32 c0_i32_46
  let c1_i32_47 : BitVec 32 := 1#32
  let v47 : BitVec 32 := Scalar.select v46 c1_i32_47 c3_i32
  let v48 : BitVec 32 := Scalar.remsi arg14 v47
  let c0_i32_49 : BitVec 32 := 0#32
  let v50 : BitVec 1 := Scalar.cmpi .slt v48 c0_i32_49
  let c0_i32_50 : BitVec 32 := 0#32
  let v51 : BitVec 1 := Scalar.cmpi .slt v47 c0_i32_50
  let v52 : BitVec 1 := Scalar.xori v50 v51
  let c0_i32_48 : BitVec 32 := 0#32
  let v49 : BitVec 1 := Scalar.cmpi .ne v48 c0_i32_48
  let v53 : BitVec 1 := Scalar.andi v52 v49
  let v54 : BitVec 32 := Scalar.addi v48 v47
  let v55 : BitVec 32 := Scalar.select v53 v54 v48
  ![v55.toNat]
def k0_off6 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c3_i32 : BitVec 32 := 3#32
  let c0_i32_46 : BitVec 32 := 0#32
  let v46 : BitVec 1 := Scalar.cmpi .eq c3_i32 c0_i32_46
  let c1_i32_47 : BitVec 32 := 1#32
  let v47 : BitVec 32 := Scalar.select v46 c1_i32_47 c3_i32
  let v48 : BitVec 32 := Scalar.remsi arg14 v47
  let c0_i32_49 : BitVec 32 := 0#32
  let v50 : BitVec 1 := Scalar.cmpi .slt v48 c0_i32_49
  let c0_i32_50 : BitVec 32 := 0#32
  let v51 : BitVec 1 := Scalar.cmpi .slt v47 c0_i32_50
  let v52 : BitVec 1 := Scalar.xori v50 v51
  let c0_i32_48 : BitVec 32 := 0#32
  let v49 : BitVec 1 := Scalar.cmpi .ne v48 c0_i32_48
  let v53 : BitVec 1 := Scalar.andi v52 v49
  let v54 : BitVec 32 := Scalar.addi v48 v47
  let v55 : BitVec 32 := Scalar.select v53 v54 v48
  let c0_i32_121 : BitVec 32 := 0#32
  let c0_i32_122 : BitVec 32 := 0#32
  ![v55.toNat, 0, 0]
def k0_off7 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let c3_i32_119 : BitVec 32 := 3#32
  let v175 : BitVec 32 := Scalar.addi arg14 c3_i32_119
  let c400_i32_120 : BitVec 32 := 400#32
  let v176 : BitVec 32 := Scalar.muli v175 c400_i32_120
  let c0_i32_123 : BitVec 32 := 0#32
  ![v176.toNat, 0]
def k0_cond2 (k0_t1 : Fin k0_t1_loop.trips) : BitVec 1 :=
  let c0_i32_21 : BitVec 32 := 0#32
  let c1_i32_22 : BitVec 32 := 1#32
  let arg14 : BitVec 32 := Scf.iv c0_i32_21 c1_i32_22 k0_t1
  let c2_i32_71 : BitVec 32 := 2#32
  let v85 : BitVec 1 := Scalar.cmpi .sge arg14 c2_i32_71
  let v86 : BitVec 32 := Scalar.extui v85
  let c0_i32_72 : BitVec 32 := 0#32
  let v87 : BitVec 1 := Scalar.cmpi .ne v86 c0_i32_72
  v87

def k0_off8 (k0_t1 : Fin k0_t1_loop.trips) : Fin 1 → Nat :=
  let c0_i32_21 : BitVec 32 := 0#32
  let c1_i32_22 : BitVec 32 := 1#32
  let arg14 : BitVec 32 := Scf.iv c0_i32_21 c1_i32_22 k0_t1
  let c2_i32_119 : BitVec 32 := 2#32
  let v175 : BitVec 32 := Scalar.subi arg14 c2_i32_119
  let c2_i32_127 : BitVec 32 := 2#32
  let c0_i32_128 : BitVec 32 := 0#32
  let v187 : BitVec 1 := Scalar.cmpi .eq c2_i32_127 c0_i32_128
  let c1_i32_129 : BitVec 32 := 1#32
  let v188 : BitVec 32 := Scalar.select v187 c1_i32_129 c2_i32_127
  let v189 : BitVec 32 := Scalar.remsi v175 v188
  let c0_i32_131 : BitVec 32 := 0#32
  let v191 : BitVec 1 := Scalar.cmpi .slt v189 c0_i32_131
  let c0_i32_132 : BitVec 32 := 0#32
  let v192 : BitVec 1 := Scalar.cmpi .slt v188 c0_i32_132
  let v193 : BitVec 1 := Scalar.xori v191 v192
  let c0_i32_130 : BitVec 32 := 0#32
  let v190 : BitVec 1 := Scalar.cmpi .ne v189 c0_i32_130
  let v194 : BitVec 1 := Scalar.andi v193 v190
  let v195 : BitVec 32 := Scalar.addi v189 v188
  let v196 : BitVec 32 := Scalar.select v194 v195 v189
  ![v196.toNat]
def k0_off9 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let c2_i32_119 : BitVec 32 := 2#32
  let v175 : BitVec 32 := Scalar.subi arg14 c2_i32_119
  let c400_i32_126 : BitVec 32 := 400#32
  let v186 : BitVec 32 := Scalar.muli v175 c400_i32_126
  let c0_i32_133 : BitVec 32 := 0#32
  ![v186.toNat, 0]
def k0_off10 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c2_i32_119 : BitVec 32 := 2#32
  let v175 : BitVec 32 := Scalar.subi arg14 c2_i32_119
  let c2_i32_120 : BitVec 32 := 2#32
  let c0_i32_121 : BitVec 32 := 0#32
  let v176 : BitVec 1 := Scalar.cmpi .eq c2_i32_120 c0_i32_121
  let c1_i32_122 : BitVec 32 := 1#32
  let v177 : BitVec 32 := Scalar.select v176 c1_i32_122 c2_i32_120
  let v178 : BitVec 32 := Scalar.remsi v175 v177
  let c0_i32_124 : BitVec 32 := 0#32
  let v180 : BitVec 1 := Scalar.cmpi .slt v178 c0_i32_124
  let c0_i32_125 : BitVec 32 := 0#32
  let v181 : BitVec 1 := Scalar.cmpi .slt v177 c0_i32_125
  let v182 : BitVec 1 := Scalar.xori v180 v181
  let c0_i32_123 : BitVec 32 := 0#32
  let v179 : BitVec 1 := Scalar.cmpi .ne v178 c0_i32_123
  let v183 : BitVec 1 := Scalar.andi v182 v179
  let v184 : BitVec 32 := Scalar.addi v178 v177
  let v185 : BitVec 32 := Scalar.select v183 v184 v178
  let c0_i32_134 : BitVec 32 := 0#32
  let c0_i32_135 : BitVec 32 := 0#32
  ![v185.toNat, 0, 0]
def k0_off11 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let c2_i32_136 : BitVec 32 := 2#32
  let v202 : BitVec 32 := Scalar.subi arg14 c2_i32_136
  let c400_i32_143 : BitVec 32 := 400#32
  let v213 : BitVec 32 := Scalar.muli v202 c400_i32_143
  let c0_i32_150 : BitVec 32 := 0#32
  ![v213.toNat, 0]
def k0_off12 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c2_i32_136 : BitVec 32 := 2#32
  let v202 : BitVec 32 := Scalar.subi arg14 c2_i32_136
  let c2_i32_137 : BitVec 32 := 2#32
  let c0_i32_138 : BitVec 32 := 0#32
  let v203 : BitVec 1 := Scalar.cmpi .eq c2_i32_137 c0_i32_138
  let c1_i32_139 : BitVec 32 := 1#32
  let v204 : BitVec 32 := Scalar.select v203 c1_i32_139 c2_i32_137
  let v205 : BitVec 32 := Scalar.remsi v202 v204
  let c0_i32_141 : BitVec 32 := 0#32
  let v207 : BitVec 1 := Scalar.cmpi .slt v205 c0_i32_141
  let c0_i32_142 : BitVec 32 := 0#32
  let v208 : BitVec 1 := Scalar.cmpi .slt v204 c0_i32_142
  let v209 : BitVec 1 := Scalar.xori v207 v208
  let c0_i32_140 : BitVec 32 := 0#32
  let v206 : BitVec 1 := Scalar.cmpi .ne v205 c0_i32_140
  let v210 : BitVec 1 := Scalar.andi v209 v206
  let v211 : BitVec 32 := Scalar.addi v205 v204
  let v212 : BitVec 32 := Scalar.select v210 v211 v205
  let c0_i32_151 : BitVec 32 := 0#32
  let c0_i32_152 : BitVec 32 := 0#32
  ![v212.toNat, 0, 0]
def k0_off13 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c2_i32_51 : BitVec 32 := 2#32
  let c0_i32_52 : BitVec 32 := 0#32
  let v56 : BitVec 1 := Scalar.cmpi .eq c2_i32_51 c0_i32_52
  let c1_i32_53 : BitVec 32 := 1#32
  let v57 : BitVec 32 := Scalar.select v56 c1_i32_53 c2_i32_51
  let v58 : BitVec 32 := Scalar.remsi arg14 v57
  let c0_i32_55 : BitVec 32 := 0#32
  let v60 : BitVec 1 := Scalar.cmpi .slt v58 c0_i32_55
  let c0_i32_56 : BitVec 32 := 0#32
  let v61 : BitVec 1 := Scalar.cmpi .slt v57 c0_i32_56
  let v62 : BitVec 1 := Scalar.xori v60 v61
  let c0_i32_54 : BitVec 32 := 0#32
  let v59 : BitVec 1 := Scalar.cmpi .ne v58 c0_i32_54
  let v63 : BitVec 1 := Scalar.andi v62 v59
  let v64 : BitVec 32 := Scalar.addi v58 v57
  let v65 : BitVec 32 := Scalar.select v63 v64 v58
  let v88 : Index := Scalar.indexCast v65
  let c0_73 : Index := 0#32
  let c0_74 : Index := 0#32
  ![v88.toNat, 0, 0]
def k0_off14 (k0_t1 : Fin k0_t1_loop.trips) : Fin 1 → Nat :=
  let c0_i32_21 : BitVec 32 := 0#32
  let c1_i32_22 : BitVec 32 := 1#32
  let arg14 : BitVec 32 := Scf.iv c0_i32_21 c1_i32_22 k0_t1
  let c2_i32_82 : BitVec 32 := 2#32
  let c0_i32_83 : BitVec 32 := 0#32
  let v103 : BitVec 1 := Scalar.cmpi .eq c2_i32_82 c0_i32_83
  let c1_i32_84 : BitVec 32 := 1#32
  let v104 : BitVec 32 := Scalar.select v103 c1_i32_84 c2_i32_82
  let v105 : BitVec 32 := Scalar.remsi arg14 v104
  let c0_i32_86 : BitVec 32 := 0#32
  let v107 : BitVec 1 := Scalar.cmpi .slt v105 c0_i32_86
  let c0_i32_87 : BitVec 32 := 0#32
  let v108 : BitVec 1 := Scalar.cmpi .slt v104 c0_i32_87
  let v109 : BitVec 1 := Scalar.xori v107 v108
  let c0_i32_85 : BitVec 32 := 0#32
  let v106 : BitVec 1 := Scalar.cmpi .ne v105 c0_i32_85
  let v110 : BitVec 1 := Scalar.andi v109 v106
  let v111 : BitVec 32 := Scalar.addi v105 v104
  let v112 : BitVec 32 := Scalar.select v110 v111 v105
  ![v112.toNat]
def k0_off15 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let c400_i32_81 : BitVec 32 := 400#32
  let v102 : BitVec 32 := Scalar.muli arg14 c400_i32_81
  let c0_i32_88 : BitVec 32 := 0#32
  ![v102.toNat, 0]
def k0_off16 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c2_i32_75 : BitVec 32 := 2#32
  let c0_i32_76 : BitVec 32 := 0#32
  let v92 : BitVec 1 := Scalar.cmpi .eq c2_i32_75 c0_i32_76
  let c1_i32_77 : BitVec 32 := 1#32
  let v93 : BitVec 32 := Scalar.select v92 c1_i32_77 c2_i32_75
  let v94 : BitVec 32 := Scalar.remsi arg14 v93
  let c0_i32_79 : BitVec 32 := 0#32
  let v96 : BitVec 1 := Scalar.cmpi .slt v94 c0_i32_79
  let c0_i32_80 : BitVec 32 := 0#32
  let v97 : BitVec 1 := Scalar.cmpi .slt v93 c0_i32_80
  let v98 : BitVec 1 := Scalar.xori v96 v97
  let c0_i32_78 : BitVec 32 := 0#32
  let v95 : BitVec 1 := Scalar.cmpi .ne v94 c0_i32_78
  let v99 : BitVec 1 := Scalar.andi v98 v95
  let v100 : BitVec 32 := Scalar.addi v94 v93
  let v101 : BitVec 32 := Scalar.select v99 v100 v94
  let c0_i32_89 : BitVec 32 := 0#32
  let c0_i32_90 : BitVec 32 := 0#32
  ![v101.toNat, 0, 0]
def k0_off17 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c2_i32_51 : BitVec 32 := 2#32
  let c0_i32_52 : BitVec 32 := 0#32
  let v56 : BitVec 1 := Scalar.cmpi .eq c2_i32_51 c0_i32_52
  let c1_i32_53 : BitVec 32 := 1#32
  let v57 : BitVec 32 := Scalar.select v56 c1_i32_53 c2_i32_51
  let v58 : BitVec 32 := Scalar.remsi arg14 v57
  let c0_i32_55 : BitVec 32 := 0#32
  let v60 : BitVec 1 := Scalar.cmpi .slt v58 c0_i32_55
  let c0_i32_56 : BitVec 32 := 0#32
  let v61 : BitVec 1 := Scalar.cmpi .slt v57 c0_i32_56
  let v62 : BitVec 1 := Scalar.xori v60 v61
  let c0_i32_54 : BitVec 32 := 0#32
  let v59 : BitVec 1 := Scalar.cmpi .ne v58 c0_i32_54
  let v63 : BitVec 1 := Scalar.andi v62 v59
  let v64 : BitVec 32 := Scalar.addi v58 v57
  let v65 : BitVec 32 := Scalar.select v63 v64 v58
  let v145 : Index := Scalar.indexCast v65
  let c0_101 : Index := 0#32
  let c0_102 : Index := 0#32
  ![v145.toNat, 0, 0]
def k0_off18 (k0_t1 : Fin k0_t1_loop.trips) : Fin 2 → Nat :=
  let c0_i32_21 : BitVec 32 := 0#32
  let c1_i32_22 : BitVec 32 := 1#32
  let arg14 : BitVec 32 := Scf.iv c0_i32_21 c1_i32_22 k0_t1
  let c400_i32_109 : BitVec 32 := 400#32
  let v159 : BitVec 32 := Scalar.muli arg14 c400_i32_109
  let c0_i32_116 : BitVec 32 := 0#32
  ![v159.toNat, 0]
def k0_off19 (k0_t1 : Fin k0_t1_loop.trips) : Fin 3 → Nat :=
  let c0_i32_21 : BitVec 32 := 0#32
  let c1_i32_22 : BitVec 32 := 1#32
  let arg14 : BitVec 32 := Scf.iv c0_i32_21 c1_i32_22 k0_t1
  let c2_i32_103 : BitVec 32 := 2#32
  let c0_i32_104 : BitVec 32 := 0#32
  let v149 : BitVec 1 := Scalar.cmpi .eq c2_i32_103 c0_i32_104
  let c1_i32_105 : BitVec 32 := 1#32
  let v150 : BitVec 32 := Scalar.select v149 c1_i32_105 c2_i32_103
  let v151 : BitVec 32 := Scalar.remsi arg14 v150
  let c0_i32_107 : BitVec 32 := 0#32
  let v153 : BitVec 1 := Scalar.cmpi .slt v151 c0_i32_107
  let c0_i32_108 : BitVec 32 := 0#32
  let v154 : BitVec 1 := Scalar.cmpi .slt v150 c0_i32_108
  let v155 : BitVec 1 := Scalar.xori v153 v154
  let c0_i32_106 : BitVec 32 := 0#32
  let v152 : BitVec 1 := Scalar.cmpi .ne v151 c0_i32_106
  let v156 : BitVec 1 := Scalar.andi v155 v152
  let v157 : BitVec 32 := Scalar.addi v151 v150
  let v158 : BitVec 32 := Scalar.select v156 v157 v151
  let c0_i32_117 : BitVec 32 := 0#32
  let c0_i32_118 : BitVec 32 := 0#32
  ![v158.toNat, 0, 0]
abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S10x32 : Shape := ⟨2, ![10, 32]⟩
abbrev S10000x32 : Shape := ⟨2, ![10000, 32]⟩
abbrev S1x32 : Shape := ⟨2, ![1, 32]⟩
abbrev S10000x1x32 : Shape := ⟨3, ![10000, 1, 32]⟩
abbrev S1x10x32 : Shape := ⟨3, ![1, 10, 32]⟩
abbrev S10000x10x32 : Shape := ⟨3, ![10000, 10, 32]⟩
abbrev S_ : Shape := ⟨0, ![]⟩
abbrev S10000x10 : Shape := ⟨2, ![10000, 10]⟩
abbrev S10000 : Shape := ⟨1, ![10000]⟩
abbrev S10000x1 : Shape := ⟨2, ![10000, 1]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S10x32, .f32⟩
  | .hbm, ⟨5, _⟩ => ⟨S10000x32, .f32⟩
  | .hbm, ⟨6, _⟩ => ⟨S10000x32, .f32⟩
  | .hbm, ⟨7, _⟩ => ⟨S1x32, .f32⟩
  | .hbm, ⟨8, _⟩ => ⟨S10000x32, .f32⟩
  | .hbm, ⟨9, _⟩ => ⟨S10000x32, .f32⟩
  | .hbm, ⟨10, _⟩ => ⟨S10000x1x32, .f32⟩
  | .hbm, ⟨11, _⟩ => ⟨S1x10x32, .f32⟩
  | .hbm, ⟨12, _⟩ => ⟨S10000x10x32, .f32⟩
  | .hbm, ⟨13, _⟩ => ⟨S10000x10x32, .f32⟩
  | .hbm, ⟨14, _⟩ => ⟨S10000x10x32, .f32⟩
  | .hbm, ⟨15, _⟩ => ⟨S10000x10x32, .f32⟩
  | .hbm, ⟨16, _⟩ => ⟨S_, .f32⟩
  | .hbm, ⟨17, _⟩ => ⟨S10000x10, .f32⟩
  | .hbm, ⟨18, _⟩ => ⟨S_, .f32⟩
  | .hbm, ⟨19, _⟩ => ⟨S10000x10, .f32⟩
  | .hbm, ⟨20, _⟩ => ⟨S10000x10, .f32⟩
  | .hbm, ⟨21, _⟩ => ⟨S_, .f32⟩
  | .hbm, ⟨22, _⟩ => ⟨S10000x10, .f32⟩
  | .hbm, ⟨23, _⟩ => ⟨S10000x10, .f32⟩
  | .hbm, ⟨24, _⟩ => ⟨S_, .f32⟩
  | .hbm, ⟨25, _⟩ => ⟨S10000x10, .f32⟩
  | .hbm, ⟨26, _⟩ => ⟨S10000x10, .f32⟩
  | .hbm, ⟨27, _⟩ => ⟨S_, .f32⟩
  | .hbm, ⟨28, _⟩ => ⟨S10000x10, .f32⟩
  | .hbm, ⟨29, _⟩ => ⟨S10000x10, .f32⟩
  | .hbm, ⟨30, _⟩ => ⟨S_, .f32⟩
  | .hbm, ⟨31, _⟩ => ⟨S10000x10, .f32⟩
  | .hbm, ⟨32, _⟩ => ⟨S10000x10, .f32⟩
  | .hbm, ⟨33, _⟩ => ⟨S_, .f32⟩
  | .hbm, ⟨34, _⟩ => ⟨S10000x10, .f32⟩
  | .hbm, ⟨35, _⟩ => ⟨S10000x10, .f32⟩
  | .hbm, ⟨36, _⟩ => ⟨S_, .f32⟩
  | .hbm, ⟨37, _⟩ => ⟨S10000, .f32⟩
  | .hbm, ⟨38, _⟩ => ⟨S10000x1, .f32⟩
  | .hbm, ⟨39, _⟩ => ⟨S10000x10, .f32⟩
  | .hbm, ⟨40, _⟩ => ⟨S10000x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.KernelIdeal.Names.lean ====
/-
  The NAMES of the kernel's transfers. Row block `b` of the adjacency matrix and of the two results, slot `s` of the
  three-slot input ring and of the two-slot output stages, and the DMA semaphore that each slot's copies count on. The
  program spells each as a slice at an offset computed from the loop's trip; the equations marked `sl_canon` say which
  name each spelling is.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.VecWindow
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic

/-! ## Offsets -/

/-- Row block `b` starts at row `400 b`. -/
abbrev blkOff (b : Fin 25) : Fin 2 → Nat := ![b.val * 400, 0]
/-- Slot `s` of a stack of blocks. -/
abbrev slotOff {n : Nat} (s : Fin n) : Fin 3 → Nat := ![s.val, 0, 0]
/-- Semaphore `s` of an array of semaphores. -/
abbrev semOff {n : Nat} (s : Fin n) : Fin 1 → Nat := ![s.val]

theorem adjOff_inb (b : Fin 25) : ∀ a, blkOff b a + S400x10000.size a ≤ S10000x10000.size a := by
  have := b.isLt; intro a; fin_cases a
  · show b.val * 400 + 400 ≤ 10000; omega
  · show 0 + 10000 ≤ 10000; omega
theorem hOff_inb (b : Fin 25) : ∀ a, blkOff b a + S400x32.size a ≤ S10000x32.size a := by
  have := b.isLt; intro a; fin_cases a
  · show b.val * 400 + 400 ≤ 10000; omega
  · show 0 + 32 ≤ 32; omega
theorem qOff_inb (b : Fin 25) : ∀ a, blkOff b a + S400x10.size a ≤ S10000x10.size a := by
  have := b.isLt; intro a; fin_cases a
  · show b.val * 400 + 400 ≤ 10000; omega
  · show 0 + 10 ≤ 10; omega
theorem ringOff_inb (s : Fin 3) : ∀ a, slotOff s a + S1x400x10000.size a ≤ S3x400x10000.size a := by
  have := s.isLt; intro a; fin_cases a
  · show s.val + 1 ≤ 3; omega
  · show 0 + 400 ≤ 400; omega
  · show 0 + 10000 ≤ 10000; omega
theorem hstOff_inb (s : Fin 2) : ∀ a, slotOff s a + S1x400x32.size a ≤ S2x400x32.size a := by
  have := s.isLt; intro a; fin_cases a
  · show s.val + 1 ≤ 2; omega
  · show 0 + 400 ≤ 400; omega
  · show 0 + 32 ≤ 32; omega
theorem qstOff_inb (s : Fin 2) : ∀ a, slotOff s a + S1x400x10.size a ≤ S2x400x10.size a := by
  have := s.isLt; intro a; fin_cases a
  · show s.val + 1 ≤ 2; omega
  · show 0 + 400 ≤ 400; omega
  · show 0 + 10 ≤ 10; omega
theorem sem3Off_inb (s : Fin 3) : ∀ a, semOff s a + S1.size a ≤ S3.size a := by
  have := s.isLt; intro a; fin_cases a; show s.val + 1 ≤ 3; omega
theorem sem2Off_inb (s : Fin 2) : ∀ a, semOff s a + S1.size a ≤ S2.size a := by
  have := s.isLt; intro a; fin_cases a; show s.val + 1 ≤ 2; omega

/-! ## The memrefs and the semaphores -/

abbrev adjM : Memref sig .tc .hbm S10000x10000 .f32 := Memref.whole main_arg1
abbrev hM : Memref sig .tc .hbm S10000x32 .f32 := Memref.whole main_v0_0
abbrev qM : Memref sig .tc .hbm S10000x10 .f32 := Memref.whole main_v0_1
abbrev ringM : Memref sig .tc .vmem S3x400x10000 .f32 := Memref.whole cc0_scratch0
abbrev supM : Memref sig .tc .vmem S10000x32 .f32 := Memref.whole cc0_scratch1
abbrev hstM : Memref sig .tc .vmem S2x400x32 .f32 := Memref.whole cc0_scratch2
abbrev qstM : Memref sig .tc .vmem S2x400x10 .f32 := Memref.whole cc0_scratch3

/-- Row block `b` of the adjacency matrix. -/
def adjB (b : Fin 25) : Memref sig .tc .hbm S400x10000 .f32 :=
  adjM.slice (Rect.unit (s := S10000x10000) (blkOff b) S400x10000.size (adjOff_inb b)) (fun _ => rfl)
/-- Row block `b` of the result `h`. -/
def hB (b : Fin 25) : Memref sig .tc .hbm S400x32 .f32 :=
  hM.slice (Rect.unit (s := S10000x32) (blkOff b) S400x32.size (hOff_inb b)) (fun _ => rfl)
/-- Row block `b` of the result `q`. -/
def qB (b : Fin 25) : Memref sig .tc .hbm S400x10 .f32 :=
  qM.slice (Rect.unit (s := S10000x10) (blkOff b) S400x10.size (qOff_inb b)) (fun _ => rfl)
/-- Slot `s` of the input ring. -/
def ringS (s : Fin 3) : Memref sig .tc .vmem S400x10000 .f32 :=
  (ringM.slice (Rect.unit (s := S3x400x10000) (slotOff s) S1x400x10000.size (ringOff_inb s)) (fun _ => rfl)).squeeze S400x10000 squeezes_S1x400x10000_S400x10000
/-- Slot `s` of the stage that `h` leaves by. -/
def hstS (s : Fin 2) : Memref sig .tc .vmem S400x32 .f32 :=
  (hstM.slice (Rect.unit (s := S2x400x32) (slotOff s) S1x400x32.size (hstOff_inb s)) (fun _ => rfl)).squeeze S400x32 squeezes_S1x400x32_S400x32
/-- Slot `s` of the stage that `q` leaves by. -/
def qstS (s : Fin 2) : Memref sig .tc .vmem S400x10 .f32 :=
  (qstM.slice (Rect.unit (s := S2x400x10) (slotOff s) S1x400x10.size (qstOff_inb s)) (fun _ => rfl)).squeeze S400x10 squeezes_S1x400x10_S400x10
/-- The semaphore of the input ring's slot `s`. -/
def ringC (s : Fin 3) : DmaSems sig S_ := (cc0_scratch4.slice (Rect.unit (s := S3) (semOff s) S1.size (sem3Off_inb s))).squeeze S_ squeezes_S1_S_
/-- The semaphore of slot `s` of the stage of `h`. -/
def hstC (s : Fin 2) : DmaSems sig S_ := (cc0_scratch5.slice (Rect.unit (s := S2) (semOff s) S1.size (sem2Off_inb s))).squeeze S_ squeezes_S1_S_
/-- The semaphore of slot `s` of the stage of `q`. -/
def qstC (s : Fin 2) : DmaSems sig S_ := (cc0_scratch6.slice (Rect.unit (s := S2) (semOff s) S1.size (sem2Off_inb s))).squeeze S_ squeezes_S1_S_

instance {n : Nat} (s : Fin n) : ClosedOff (slotOff s) := ⟨slotOff s, rfl⟩
instance (b : Fin 25) : ClosedOff (blkOff b) := ⟨blkOff b, rfl⟩

/-! ## The offsets of a trip in closed form -/

theorem trips_eq : k0_t1_loop.trips = 25 := by decide

section Chain
variable (k : Fin k0_t1_loop.trips)

theorem off1_eq : k0_off1 k = semOff (Ring.sl 3 k.val) := (by decide +kernel : ∀ k, k0_off1 k = semOff (Ring.sl 3 k.val)) k
theorem off2_eq : k0_off2 k = slotOff (Ring.sl 3 k.val) := (by decide +kernel : ∀ k, k0_off2 k = slotOff (Ring.sl 3 k.val)) k
theorem off3_eq : k0_off3 k = blkOff (Ring.bk 25 k.val) := (by decide +kernel : ∀ k, k0_off3 k = blkOff (Ring.bk 25 k.val)) k
theorem off4_eq : k0_off4 k = slotOff (Ring.sl 3 k.val) := (by decide +kernel : ∀ k, k0_off4 k = slotOff (Ring.sl 3 k.val)) k
theorem off5_eq : k0_off5 k = semOff (Ring.sl 3 k.val) := (by decide +kernel : ∀ k, k0_off5 k = semOff (Ring.sl 3 k.val)) k
theorem off6_eq : k0_off6 k = slotOff (Ring.sl 3 k.val) := (by decide +kernel : ∀ k, k0_off6 k = slotOff (Ring.sl 3 k.val)) k
theorem off7_eq (h : k.val + 3 < 25) : k0_off7 k = blkOff (Ring.bk 25 (k.val + 3)) :=
  (by decide +kernel : ∀ k : Fin k0_t1_loop.trips, k.val + 3 < 25 → k0_off7 k = blkOff (Ring.bk 25 (k.val + 3))) k h
theorem off8_eq (h : 2 ≤ k.val) : k0_off8 k = semOff (Ring.sl 2 k.val) :=
  (by decide +kernel : ∀ k : Fin k0_t1_loop.trips, 2 ≤ k.val → k0_off8 k = semOff (Ring.sl 2 k.val)) k h
theorem off9_eq (h : 2 ≤ k.val) : k0_off9 k = blkOff (Ring.bk 25 (k.val - 2)) :=
  (by decide +kernel : ∀ k : Fin k0_t1_loop.trips, 2 ≤ k.val → k0_off9 k = blkOff (Ring.bk 25 (k.val - 2))) k h
theorem off10_eq (h : 2 ≤ k.val) : k0_off10 k = slotOff (Ring.sl 2 k.val) :=
  (by decide +kernel : ∀ k : Fin k0_t1_loop.trips, 2 ≤ k.val → k0_off10 k = slotOff (Ring.sl 2 k.val)) k h
theorem off11_eq (h : 2 ≤ k.val) : k0_off11 k = blkOff (Ring.bk 25 (k.val - 2)) :=
  (by decide +kernel : ∀ k : Fin k0_t1_loop.trips, 2 ≤ k.val → k0_off11 k = blkOff (Ring.bk 25 (k.val - 2))) k h
theorem off12_eq (h : 2 ≤ k.val) : k0_off12 k = slotOff (Ring.sl 2 k.val) :=
  (by decide +kernel : ∀ k : Fin k0_t1_loop.trips, 2 ≤ k.val → k0_off12 k = slotOff (Ring.sl 2 k.val)) k h
theorem off13_eq : k0_off13 k = slotOff (Ring.sl 2 k.val) := (by decide +kernel : ∀ k, k0_off13 k = slotOff (Ring.sl 2 k.val)) k
theorem off14_eq : k0_off14 k = semOff (Ring.sl 2 k.val) := (by decide +kernel : ∀ k, k0_off14 k = semOff (Ring.sl 2 k.val)) k
theorem off15_eq : k0_off15 k = blkOff (Ring.bk 25 k.val) := (by decide +kernel : ∀ k, k0_off15 k = blkOff (Ring.bk 25 k.val)) k
theorem off16_eq : k0_off16 k = slotOff (Ring.sl 2 k.val) := (by decide +kernel : ∀ k, k0_off16 k = slotOff (Ring.sl 2 k.val)) k
theorem off17_eq : k0_off17 k = slotOff (Ring.sl 2 k.val) := (by decide +kernel : ∀ k, k0_off17 k = slotOff (Ring.sl 2 k.val)) k
theorem off18_eq : k0_off18 k = blkOff (Ring.bk 25 k.val) := (by decide +kernel : ∀ k, k0_off18 k = blkOff (Ring.bk 25 k.val)) k
theorem off19_eq : k0_off19 k = slotOff (Ring.sl 2 k.val) := (by decide +kernel : ∀ k, k0_off19 k = slotOff (Ring.sl 2 k.val)) k

/-- A further input block is started while one is left, -/
theorem cond1_iff : k0_cond1 k = 1#1 ↔ k.val + 3 < 25 := (by decide +kernel : ∀ k : Fin k0_t1_loop.trips, k0_cond1 k = 1#1 ↔ k.val + 3 < 25) k
/-- and a stage's earlier copy is awaited from the third trip on. -/
theorem cond2_iff : k0_cond2 k = 1#1 ↔ 2 ≤ k.val := (by decide +kernel : ∀ k : Fin k0_t1_loop.trips, k0_cond2 k = 1#1 ↔ 2 ≤ k.val) k

instance : ClosedOff (k0_off2 k) := ⟨slotOff (Ring.sl 3 k.val), off2_eq k⟩
instance : ClosedOff (k0_off4 k) := ⟨slotOff (Ring.sl 3 k.val), off4_eq k⟩
instance : ClosedOff (k0_off13 k) := ⟨slotOff (Ring.sl 2 k.val), off13_eq k⟩
instance : ClosedOff (k0_off16 k) := ⟨slotOff (Ring.sl 2 k.val), off16_eq k⟩
instance : ClosedOff (k0_off17 k) := ⟨slotOff (Ring.sl 2 k.val), off17_eq k⟩
instance : ClosedOff (k0_off19 k) := ⟨slotOff (Ring.sl 2 k.val), off19_eq k⟩

end Chain

/-! ## The program's spellings -/

section Congr
theorem ringC_congr {off : Fin 1 → Nat} {s : Fin 3} (e : off = semOff s) (hh) :
    (cc0_scratch4.slice (Rect.unit (s := S3) off S1.size hh)).squeeze S_ squeezes_S1_S_ = ringC s :=
  congrArg (fun A : DmaSems sig S1 => A.squeeze S_ squeezes_S1_S_) (SemArray.slice_unit_congr _ e _ _)
theorem hstC_congr {off : Fin 1 → Nat} {s : Fin 2} (e : off = semOff s) (hh) :
    (cc0_scratch5.slice (Rect.unit (s := S2) off S1.size hh)).squeeze S_ squeezes_S1_S_ = hstC s :=
  congrArg (fun A : DmaSems sig S1 => A.squeeze S_ squeezes_S1_S_) (SemArray.slice_unit_congr _ e _ _)
theorem qstC_congr {off : Fin 1 → Nat} {s : Fin 2} (e : off = semOff s) (hh) :
    (cc0_scratch6.slice (Rect.unit (s := S2) off S1.size hh)).squeeze S_ squeezes_S1_S_ = qstC s :=
  congrArg (fun A : DmaSems sig S1 => A.squeeze S_ squeezes_S1_S_) (SemArray.slice_unit_congr _ e _ _)
theorem ringS_congr {off : Fin 3 → Nat} {s : Fin 3} (e : off = slotOff s) (hh hs) :
    (ringM.slice (Rect.unit (s := S3x400x10000) off S1x400x10000.size hh) hs).squeeze S400x10000 squeezes_S1x400x10000_S400x10000 = ringS s :=
  congrArg (fun M : Memref sig .tc .vmem S1x400x10000 .f32 => M.squeeze S400x10000 squeezes_S1x400x10000_S400x10000) (Memref.slice_unit_congr _ e _ _ _ _)
theorem hstS_congr {off : Fin 3 → Nat} {s : Fin 2} (e : off = slotOff s) (hh hs) :
    (hstM.slice (Rect.unit (s := S2x400x32) off S1x400x32.size hh) hs).squeeze S400x32 squeezes_S1x400x32_S400x32 = hstS s :=
  congrArg (fun M : Memref sig .tc .vmem S1x400x32 .f32 => M.squeeze S400x32 squeezes_S1x400x32_S400x32) (Memref.slice_unit_congr _ e _ _ _ _)
theorem qstS_congr {off : Fin 3 → Nat} {s : Fin 2} (e : off = slotOff s) (hh hs) :
    (qstM.slice (Rect.unit (s := S2x400x10) off S1x400x10.size hh) hs).squeeze S400x10 squeezes_S1x400x10_S400x10 = qstS s :=
  congrArg (fun M : Memref sig .tc .vmem S1x400x10 .f32 => M.squeeze S400x10 squeezes_S1x400x10_S400x10) (Memref.slice_unit_congr _ e _ _ _ _)
theorem adjB_congr {off : Fin 2 → Nat} {b : Fin 25} (e : off = blkOff b) (hh hs) :
    adjM.slice (Rect.unit (s := S10000x10000) off S400x10000.size hh) hs = adjB b := Memref.slice_unit_congr _ e _ _ _ (fun _ => rfl)
theorem hB_congr {off : Fin 2 → Nat} {b : Fin 25} (e : off = blkOff b) (hh hs) :
    hM.slice (Rect.unit (s := S10000x32) off S400x32.size hh) hs = hB b := Memref.slice_unit_congr _ e _ _ _ (fun _ => rfl)
theorem qB_congr {off : Fin 2 → Nat} {b : Fin 25} (e : off = blkOff b) (hh hs) :
    qM.slice (Rect.unit (s := S10000x10) off S400x10.size hh) hs = qB b := Memref.slice_unit_congr _ e _ _ _ (fun _ => rfl)
end Congr

/-! ### At literal offsets: the first three copies and the last waits -/

@[sl_canon] theorem ringC_at0 (hh) : (cc0_scratch4.slice (Rect.unit (s := S3) ![0] S1.size hh)).squeeze S_ squeezes_S1_S_ = ringC 0 := ringC_congr (by decide) _
@[sl_canon] theorem ringC_at1 (hh) : (cc0_scratch4.slice (Rect.unit (s := S3) ![1] S1.size hh)).squeeze S_ squeezes_S1_S_ = ringC 1 := ringC_congr (by decide) _
@[sl_canon] theorem ringC_at2 (hh) : (cc0_scratch4.slice (Rect.unit (s := S3) ![2] S1.size hh)).squeeze S_ squeezes_S1_S_ = ringC 2 := ringC_congr (by decide) _
@[sl_canon] theorem ringS_at0 (hh hs) : (ringM.slice (Rect.unit (s := S3x400x10000) ![0, 0, 0] S1x400x10000.size hh) hs).squeeze S400x10000 squeezes_S1x400x10000_S400x10000 = ringS 0 := ringS_congr (by decide) _ _
@[sl_canon] theorem ringS_at1 (hh hs) : (ringM.slice (Rect.unit (s := S3x400x10000) ![1, 0, 0] S1x400x10000.size hh) hs).squeeze S400x10000 squeezes_S1x400x10000_S400x10000 = ringS 1 := ringS_congr (by decide) _ _
@[sl_canon] theorem ringS_at2 (hh hs) : (ringM.slice (Rect.unit (s := S3x400x10000) ![2, 0, 0] S1x400x10000.size hh) hs).squeeze S400x10000 squeezes_S1x400x10000_S400x10000 = ringS 2 := ringS_congr (by decide) _ _
@[sl_canon] theorem adjB_at0 (hh hs) : adjM.slice (Rect.unit (s := S10000x10000) ![0, 0] S400x10000.size hh) hs = adjB 0 := adjB_congr (by decide) _ _
@[sl_canon] theorem adjB_at1 (hh hs) : adjM.slice (Rect.unit (s := S10000x10000) ![400, 0] S400x10000.size hh) hs = adjB 1 := adjB_congr (by decide) _ _
@[sl_canon] theorem adjB_at2 (hh hs) : adjM.slice (Rect.unit (s := S10000x10000) ![800, 0] S400x10000.size hh) hs = adjB 2 := adjB_congr (by decide) _ _
@[sl_canon] theorem hstC_at0 (hh) : (cc0_scratch5.slice (Rect.unit (s := S2) ![0] S1.size hh)).squeeze S_ squeezes_S1_S_ = hstC 0 := hstC_congr (by decide) _
@[sl_canon] theorem hstC_at1 (hh) : (cc0_scratch5.slice (Rect.unit (s := S2) ![1] S1.size hh)).squeeze S_ squeezes_S1_S_ = hstC 1 := hstC_congr (by decide) _
@[sl_canon] theorem qstC_at0 (hh) : (cc0_scratch6.slice (Rect.unit (s := S2) ![0] S1.size hh)).squeeze S_ squeezes_S1_S_ = qstC 0 := qstC_congr (by decide) _
@[sl_canon] theorem qstC_at1 (hh) : (cc0_scratch6.slice (Rect.unit (s := S2) ![1] S1.size hh)).squeeze S_ squeezes_S1_S_ = qstC 1 := qstC_congr (by decide) _
@[sl_canon] theorem hstS_at0 (hh hs) : (hstM.slice (Rect.unit (s := S2x400x32) ![0, 0, 0] S1x400x32.size hh) hs).squeeze S400x32 squeezes_S1x400x32_S400x32 = hstS 0 := hstS_congr (by decide) _ _
@[sl_canon] theorem hstS_at1 (hh hs) : (hstM.slice (Rect.unit (s := S2x400x32) ![1, 0, 0] S1x400x32.size hh) hs).squeeze S400x32 squeezes_S1x400x32_S400x32 = hstS 1 := hstS_congr (by decide) _ _
@[sl_canon] theorem qstS_at0 (hh hs) : (qstM.slice (Rect.unit (s := S2x400x10) ![0, 0, 0] S1x400x10.size hh) hs).squeeze S400x10 squeezes_S1x400x10_S400x10 = qstS 0 := qstS_congr (by decide) _ _
@[sl_canon] theorem qstS_at1 (hh hs) : (qstM.slice (Rect.unit (s := S2x400x10) ![1, 0, 0] S1x400x10.size hh) hs).squeeze S400x10 squeezes_S1x400x10_S400x10 = qstS 1 := qstS_congr (by decide) _ _
@[sl_canon] theorem hB_at23 (hh hs) : hM.slice (Rect.unit (s := S10000x32) ![9200, 0] S400x32.size hh) hs = hB 23 := hB_congr (by decide) _ _
@[sl_canon] theorem hB_at24 (hh hs) : hM.slice (Rect.unit (s := S10000x32) ![9600, 0] S400x32.size hh) hs = hB 24 := hB_congr (by decide) _ _
@[sl_canon] theorem qB_at23 (hh hs) : qM.slice (Rect.unit (s := S10000x10) ![9200, 0] S400x10.size hh) hs = qB 23 := qB_congr (by decide) _ _
@[sl_canon] theorem qB_at24 (hh hs) : qM.slice (Rect.unit (s := S10000x10) ![9600, 0] S400x10.size hh) hs = qB 24 := qB_congr (by decide) _ _

/-! ### In trip `k` -/

section Trip
variable (k : Fin k0_t1_loop.trips)
@[sl_canon] theorem ringC_wait (hh) : (cc0_scratch4.slice (Rect.unit (s := S3) (k0_off1 k) S1.size hh)).squeeze S_ squeezes_S1_S_ = ringC (Ring.sl 3 k.val) := ringC_congr (off1_eq k) _
@[sl_canon] theorem ringS_wait (hh hs) : (ringM.slice (Rect.unit (s := S3x400x10000) (k0_off2 k) S1x400x10000.size hh) hs).squeeze S400x10000 squeezes_S1x400x10000_S400x10000 = ringS (Ring.sl 3 k.val) := ringS_congr (off2_eq k) _ _
@[sl_canon] theorem adjB_wait (hh hs) : adjM.slice (Rect.unit (s := S10000x10000) (k0_off3 k) S400x10000.size hh) hs = adjB (Ring.bk 25 k.val) := adjB_congr (off3_eq k) _ _
@[sl_canon] theorem ringC_start (hh) : (cc0_scratch4.slice (Rect.unit (s := S3) (k0_off5 k) S1.size hh)).squeeze S_ squeezes_S1_S_ = ringC (Ring.sl 3 k.val) := ringC_congr (off5_eq k) _
@[sl_canon] theorem ringS_start (hh hs) : (ringM.slice (Rect.unit (s := S3x400x10000) (k0_off6 k) S1x400x10000.size hh) hs).squeeze S400x10000 squeezes_S1x400x10000_S400x10000 = ringS (Ring.sl 3 k.val) := ringS_congr (off6_eq k) _ _
@[sl_canon] theorem adjB_start (h : k.val + 3 < 25) (hh hs) : adjM.slice (Rect.unit (s := S10000x10000) (k0_off7 k) S400x10000.size hh) hs = adjB (Ring.bk 25 (k.val + 3)) := adjB_congr (off7_eq k h) _ _
@[sl_canon] theorem hstC_wait (h : 2 ≤ k.val) (hh) : (cc0_scratch5.slice (Rect.unit (s := S2) (k0_off8 k) S1.size hh)).squeeze S_ squeezes_S1_S_ = hstC (Ring.sl 2 k.val) := hstC_congr (off8_eq k h) _
@[sl_canon] theorem qstC_wait (h : 2 ≤ k.val) (hh) : (cc0_scratch6.slice (Rect.unit (s := S2) (k0_off8 k) S1.size hh)).squeeze S_ squeezes_S1_S_ = qstC (Ring.sl 2 k.val) := qstC_congr (off8_eq k h) _
@[sl_canon] theorem hB_wait (h : 2 ≤ k.val) (hh hs) : hM.slice (Rect.unit (s := S10000x32) (k0_off9 k) S400x32.size hh) hs = hB (Ring.bk 25 (k.val - 2)) := hB_congr (off9_eq k h) _ _
@[sl_canon] theorem hstS_wait (h : 2 ≤ k.val) (hh hs) : (hstM.slice (Rect.unit (s := S2x400x32) (k0_off10 k) S1x400x32.size hh) hs).squeeze S400x32 squeezes_S1x400x32_S400x32 = hstS (Ring.sl 2 k.val) := hstS_congr (off10_eq k h) _ _
@[sl_canon] theorem qB_wait (h : 2 ≤ k.val) (hh hs) : qM.slice (Rect.unit (s := S10000x10) (k0_off11 k) S400x10.size hh) hs = qB (Ring.bk 25 (k.val - 2)) := qB_congr (off11_eq k h) _ _
@[sl_canon] theorem qstS_wait (h : 2 ≤ k.val) (hh hs) : (qstM.slice (Rect.unit (s := S2x400x10) (k0_off12 k) S1x400x10.size hh) hs).squeeze S400x10 squeezes_S1x400x10_S400x10 = qstS (Ring.sl 2 k.val) := qstS_congr (off12_eq k h) _ _
@[sl_canon] theorem hstC_start (hh) : (cc0_scratch5.slice (Rect.unit (s := S2) (k0_off14 k) S1.size hh)).squeeze S_ squeezes_S1_S_ = hstC (Ring.sl 2 k.val) := hstC_congr (off14_eq k) _
@[sl_canon] theorem qstC_start (hh) : (cc0_scratch6.slice (Rect.unit (s := S2) (k0_off14 k) S1.size hh)).squeeze S_ squeezes_S1_S_ = qstC (Ring.sl 2 k.val) := qstC_congr (off14_eq k) _
@[sl_canon] theorem hB_start (hh hs) : hM.slice (Rect.unit (s := S10000x32) (k0_off15 k) S400x32.size hh) hs = hB (Ring.bk 25 k.val) := hB_congr (off15_eq k) _ _
@[sl_canon] theorem hstS_start (hh hs) : (hstM.slice (Rect.unit (s := S2x400x32) (k0_off16 k) S1x400x32.size hh) hs).squeeze S400x32 squeezes_S1x400x32_S400x32 = hstS (Ring.sl 2 k.val) := hstS_congr (off16_eq k) _ _
@[sl_canon] theorem qB_start (hh hs) : qM.slice (Rect.unit (s := S10000x10) (k0_off18 k) S400x10.size hh) hs = qB (Ring.bk 25 k.val) := qB_congr (off18_eq k) _ _
@[sl_canon] theorem qstS_start (hh hs) : (qstM.slice (Rect.unit (s := S2x400x10) (k0_off19 k) S1x400x10.size hh) hs).squeeze S400x10 squeezes_S1x400x10_S400x10 = qstS (Ring.sl 2 k.val) := qstS_congr (off19_eq k) _ _
end Trip

end Cert.Proof.KernelIdeal

end
-- ==== Proof.KernelIdeal.Ring.lean ====
/-
  The PIECES the pipeline passes from trip to trip: a row block of the adjacency matrix at home or on its way into a
  slot of the input ring, a slot of the output stages free or on its way to a row block of a result, a row block of a
  result not yet written or holding its final words.
-/
module

public import proofs.«01_k».proof.Proof.KernelIdeal.Names

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of a gridless pipelined launch. -/
abbrev Alg := Pipeline.UD sig nD τ
local notation "𝕄" => MT nD τ sig Unit (Elt F) ℕ Alg ℕ
abbrev 𝒱₀ : Variants := Variants.none

section Pieces
variable (c : Dev nD)

/-! ## The input ring -/

section In
variable (XA : Buf (Elt F) (adjM.view.loc (c : Thread nD τ)))

/-- The counter of ring slot `s` at rest. -/
abbrev ringCellP (s : Fin 3) : sProp 𝕄 := semVal ((c : Thread nD τ), SemLoc.dma (ringC s).sem) 0
/-- Ring slot `s` held, at contents `f`. -/
abbrev ringP (s : Fin 3) (f : Buf (Elt F) ((ringS s).view.loc (c : Thread nD τ))) : sProp 𝕄 :=
  (ringS s).view.loc (c : Thread nD τ) ↦[(ringS s).view.set]{fullShare} f
/-- Row block `b` of the adjacency matrix held. -/
abbrev homeP (b : Fin 25) : sProp 𝕄 := (adjB b).view.loc (c : Thread nD τ) ↦[(adjB b).view.set]{fullShare} XA
/-- The words of row block `b`. -/
abbrev adjWords (b : Fin 25) : S400x10000.Idx → Elt F .f32 := ReadAs.same.apply ((adjB b).view.read (Elt F) XA)
/-- Slot `s` after row block `b` has landed on contents `f`. -/
abbrev landed (s : Fin 3) (b : Fin 25) (f : Buf (Elt F) ((ringS s).view.loc (c : Thread nD τ))) : Buf (Elt F) ((ringS s).view.loc (c : Thread nD τ)) :=
  (ringS s).view.writes (Elt F) f [⟨Rect.whole S400x10000, adjWords c XA b⟩]
/-- Row block `b` on its way into slot `s`. -/
abbrev inFlight (s : Fin 3) (b : Fin 25) (f : Buf (Elt F) ((ringS s).view.loc (c : Thread nD τ))) : sProp 𝕄 :=
  Transfers.Flight countersEmb (c : Thread nD τ) (SemLoc.dma (ringC s).sem) () 505600 iprop(ringP c s (landed c XA s b f) ∗ homeP c XA b)

end In

abbrev hCellP (s : Fin 2) : sProp 𝕄 := semVal ((c : Thread nD τ), SemLoc.dma (hstC s).sem) 0
abbrev qCellP (s : Fin 2) : sProp 𝕄 := semVal ((c : Thread nD τ), SemLoc.dma (qstC s).sem) 0
abbrev hstP (s : Fin 2) (f : Buf (Elt F) ((hstS s).view.loc (c : Thread nD τ))) : sProp 𝕄 :=
  (hstS s).view.loc (c : Thread nD τ) ↦[(hstS s).view.set]{fullShare} f
abbrev qstP (s : Fin 2) (f : Buf (Elt F) ((qstS s).view.loc (c : Thread nD τ))) : sProp 𝕄 :=
  (qstS s).view.loc (c : Thread nD τ) ↦[(qstS s).view.set]{fullShare} f
abbrev hBP (b : Fin 25) (f : Buf (Elt F) ((hB b).view.loc (c : Thread nD τ))) : sProp 𝕄 :=
  (hB b).view.loc (c : Thread nD τ) ↦[(hB b).view.set]{fullShare} f
abbrev qBP (b : Fin 25) (f : Buf (Elt F) ((qB b).view.loc (c : Thread nD τ))) : sProp 𝕄 :=
  (qB b).view.loc (c : Thread nD τ) ↦[(qB b).view.set]{fullShare} f
abbrev hFlight (s : Fin 2) (b : Fin 25) (g : Buf (Elt F) ((hB b).view.loc (c : Thread nD τ))) (f : Buf (Elt F) ((hstS s).view.loc (c : Thread nD τ))) : sProp 𝕄 :=
  Transfers.Flight countersEmb (c : Thread nD τ) (SemLoc.dma (hstC s).sem) () 6400 iprop(hBP (F := F) c b g ∗ hstP c s f)
abbrev qFlight (s : Fin 2) (b : Fin 25) (g : Buf (Elt F) ((qB b).view.loc (c : Thread nD τ))) (f : Buf (Elt F) ((qstS s).view.loc (c : Thread nD τ))) : sProp 𝕄 :=
  Transfers.Flight countersEmb (c : Thread nD τ) (SemLoc.dma (qstC s).sem) () 6400 iprop(qBP (F := F) c b g ∗ qstP c s f)

end Pieces

/-! ## What a block's passage leaves -/

section Values
variable (c : Dev nD) (XA : Buf (Elt F) (adjM.view.loc (c : Thread nD τ)))
  (arg3 : Memref sig .tc .vmem S1x32 .f32)
  (fb : Buf (Elt F) (arg3.view.loc (c : Thread nD τ))) (fs : Buf (Elt F) (supM.view.loc (c : Thread nD τ)))
  (v21 : Vec F S10x32 .f32) (v24 : FVec F S1x10 .f32)

omit [FloatOps F] in
/-- Matching a shape's indices with another's and back changes nothing. -/
theorem reshape_back {s s' : Shape} (h : s'.numel = s.numel) (h' : s.numel = s'.numel) (x : s.Idx) :
    Shape.reshapeEquiv h (Shape.reshapeEquiv h' x) = x := by
  rw [Shape.reshapeEquiv_reshapeEquiv, Shape.reshapeEquiv_self]
section Reshape
variable {κ : Kind} {sp : Space} {s s' : Shape} {e : EltTy} (v : View sig κ sp s e) (Val : EltTy → Type) (h : s'.numel = s.numel) (h' : s.numel = s'.numel)
/-- A view reads what the view of its elements at another shape reads, cast back. -/
theorem read_eq_cast (f : v.ty.Contents Val) : v.read Val f = shapeCast s ((v.reshape s' h).read Val f) h' := by
  funext y
  exact congrArg (v.read Val f) (reshape_back h h' y).symm
/-- The view at another shape reads back what was written, cast. -/
theorem read_cast_write (f : v.ty.Contents Val) (w : s.Idx → Val e) :
    (v.reshape s' h).read Val (v.write Val f w Finset.univ) = shapeCast s' w h := by
  funext y
  exact congrFun (View.read_write_univ (v := v) f w) (Shape.reshapeEquiv h y)
/-- So what was cast and written is read back. -/
theorem read_write_cast (f : v.ty.Contents Val) (w : s'.Idx → Val e) :
    (v.reshape s' h).read Val (v.write Val f (shapeCast s w h') Finset.univ) = w := by
  rw [read_cast_write]
  funext y
  exact congrArg w (reshape_back h' h y)
end Reshape

theorem cast_in : S400x10000.ShapeCasts S1x400x10000 := squeezes_S1x400x10000_S400x10000.numel_eq.symm
theorem cast_h : S1x400x32.ShapeCasts S400x32 := squeezes_S1x400x32_S400x32.numel_eq
theorem cast_q : S1x400x10.ShapeCasts S400x10 := squeezes_S1x400x10_S400x10.numel_eq

/-- Row block `b` of the result `h`: the block of the adjacency matrix against the support, and the bias. -/
def hBlk (b : Fin 25) : S400x32.Idx → Elt F .f32 :=
  k0_pay1 (shapeCast S1x400x10000 (adjWords c XA b) cast_in) (supM.view.read (Elt F) fs) (arg3.view.read (Elt F) fb)
/-- Row block `b` of the result `q`, from that of `h`. -/
def qBlk (b : Fin 25) : S400x10.Idx → Elt F .f32 :=
  shapeCast S400x10 (k0_pay3 v21 v24 (hBlk c XA arg3 fb fs b)) cast_q

/-- The load of slot `s` through the whole ring reads the block that landed. -/
theorem load_landed (k : Fin k0_t1_loop.trips) (b : Fin 25) (f hh) :
    View.readAt (Elt F) ringM.view (Rect.unit (s := S3x400x10000) (k0_off4 k) S1x400x10000.size hh).toLoadRect (landed c XA (Ring.sl 3 k.val) b f)
      = shapeCast S1x400x10000 (adjWords c XA b) cast_in := by
  have key : ∀ (off : Fin 3 → Nat) (s : Fin 3), off = slotOff s → ∀ hh f,
      View.readAt (Elt F) ringM.view (Rect.unit (s := S3x400x10000) off S1x400x10000.size hh).toLoadRect (landed c XA s b f)
        = shapeCast S1x400x10000 (adjWords c XA b) cast_in := by
    intro off s e hh f
    subst e
    have h : (ringS s).view.read (Elt F) (landed c XA s b f) = adjWords c XA b := by
      unfold landed
      rw [← View.write_univ_eq_writes_whole, View.writes_nil, View.read_write_univ]
    have h2 := read_eq_cast (ringM.access (Rect.unit (s := S3x400x10000) (slotOff s) S1x400x10000.size (ringOff_inb s))) (Elt F)
      squeezes_S1x400x10000_S400x10000.numel_eq cast_in (landed c XA s b f)
    exact h2.trans (congrArg (fun w : S400x10000.Idx → Elt F .f32 => (shapeCast S1x400x10000 w cast_in : S1x400x10000.Idx → Elt F .f32)) h)
  exact key _ _ (off4_eq k) hh f

/-- The copy out of slot `s` of the stage of `h` carries what was stored in it. -/
theorem copy_h (k : Fin k0_t1_loop.trips) (e0 : Buf (Elt F) ((hstS (Ring.sl 2 k.val)).view.loc (c : Thread nD τ))) (hh) (w : FVec F S400x32 .f32) :
    (ReadAs.same.apply (View.read (Elt F) (hstS (Ring.sl 2 k.val)).view
      (View.write (Elt F) (hstM.access (Rect.unit (s := S2x400x32) (k0_off13 k) S1x400x32.size hh)) e0 (k0_pay2 w) Finset.univ)) : S400x32.Idx → Elt F .f32) = w := by
  have key : ∀ (off : Fin 3 → Nat) (s : Fin 2), off = slotOff s → ∀ hh (e0 : Buf (Elt F) ((hstS s).view.loc (c : Thread nD τ))),
      View.read (Elt F) (hstS s).view
        (View.write (Elt F) (hstM.access (Rect.unit (s := S2x400x32) off S1x400x32.size hh)) e0 (k0_pay2 w) Finset.univ) = w := by
    intro off s e hh e0
    subst e
    exact read_write_cast (hstM.access (Rect.unit (s := S2x400x32) (slotOff s) S1x400x32.size (hstOff_inb s))) (Elt F)
      squeezes_S1x400x32_S400x32.numel_eq shapeCasts_S400x32_S1x400x32 e0 w
  exact key _ _ (off13_eq k) hh e0
/-- Likewise for `q`. -/
theorem copy_q (k : Fin k0_t1_loop.trips) (e0 : Buf (Elt F) ((qstS (Ring.sl 2 k.val)).view.loc (c : Thread nD τ))) (hh) (w : FVec F S1x400x10 .f32) :
    (ReadAs.same.apply (View.read (Elt F) (qstS (Ring.sl 2 k.val)).view
      (View.write (Elt F) (qstM.access (Rect.unit (s := S2x400x10) (k0_off17 k) S1x400x10.size hh)) e0 w Finset.univ)) : S400x10.Idx → Elt F .f32) = shapeCast S400x10 w cast_q := by
  have key : ∀ (off : Fin 3 → Nat) (s : Fin 2), off = slotOff s → ∀ hh (e0 : Buf (Elt F) ((qstS s).view.loc (c : Thread nD τ))),
      View.read (Elt F) (qstS s).view
        (View.write (Elt F) (qstM.access (Rect.unit (s := S2x400x10) off S1x400x10.size hh)) e0 w Finset.univ) = shapeCast S400x10 w cast_q := by
    intro off s e hh e0
    subst e
    exact read_cast_write (qstM.access (Rect.unit (s := S2x400x10) (slotOff s) S1x400x10.size (qstOff_inb s))) (Elt F)
      squeezes_S1x400x10_S400x10.numel_eq e0 w
  exact key _ _ (off17_eq k) hh e0

/-- The value the trip computes for `h` is the block's. -/
theorem pay1_eq (k : Fin k0_t1_loop.trips) (f h4 h8 h3) :
    k0_pay1 (View.readAt (Elt F) ringM.view (Rect.unit (s := S3x400x10000) (k0_off4 k) S1x400x10000.size h4).toLoadRect (landed c XA (Ring.sl 3 k.val) (Ring.bk 25 k.val) f))
      (View.readAt (Elt F) supM.view (Rect.unit (s := S10000x32) ![0, 0] S10000x32.size h8).toLoadRect fs)
      (View.readAt (Elt F) arg3.view (Rect.unit (s := S1x32) ![0, 0] S1x32.size h3).toLoadRect fb) = hBlk c XA arg3 fb fs (Ring.bk 25 k.val) := by
  rw [load_landed, View.readAt_full supM.view fs h8, View.readAt_full arg3.view fb h3]
  rfl

/-- What arrives in row block `b` of `h`. -/
theorem arrives_h (k : Fin k0_t1_loop.trips) (n : Buf (Elt F) ((hB (Ring.bk 25 k.val)).view.loc (c : Thread nD τ)))
    (e0 : Buf (Elt F) ((hstS (Ring.sl 2 k.val)).view.loc (c : Thread nD τ))) (hh f h4 h8 h3) :
    (hB (Ring.bk 25 k.val)).view.read (Elt F) ((hB (Ring.bk 25 k.val)).view.writes (Elt F) n [⟨Rect.whole S400x32,
      ReadAs.same.apply (View.read (Elt F) (hstS (Ring.sl 2 k.val)).view
        (View.write (Elt F) (hstM.access (Rect.unit (s := S2x400x32) (k0_off13 k) S1x400x32.size hh)) e0
          (k0_pay2 (k0_pay1 (View.readAt (Elt F) ringM.view (Rect.unit (s := S3x400x10000) (k0_off4 k) S1x400x10000.size h4).toLoadRect (landed c XA (Ring.sl 3 k.val) (Ring.bk 25 k.val) f))
            (View.readAt (Elt F) supM.view (Rect.unit (s := S10000x32) ![0, 0] S10000x32.size h8).toLoadRect fs)
            (View.readAt (Elt F) arg3.view (Rect.unit (s := S1x32) ![0, 0] S1x32.size h3).toLoadRect fb))) Finset.univ))⟩])
      = hBlk c XA arg3 fb fs (Ring.bk 25 k.val) := by
  rw [pay1_eq, copy_h, ← View.write_univ_eq_writes_whole, View.writes_nil, View.read_write_univ]
/-- What arrives in row block `b` of `q`. -/
theorem arrives_q (k : Fin k0_t1_loop.trips) (n : Buf (Elt F) ((qB (Ring.bk 25 k.val)).view.loc (c : Thread nD τ)))
    (e0 : Buf (Elt F) ((qstS (Ring.sl 2 k.val)).view.loc (c : Thread nD τ))) (hh f h4 h8 h3) :
    (qB (Ring.bk 25 k.val)).view.read (Elt F) ((qB (Ring.bk 25 k.val)).view.writes (Elt F) n [⟨Rect.whole S400x10,
      ReadAs.same.apply (View.read (Elt F) (qstS (Ring.sl 2 k.val)).view
        (View.write (Elt F) (qstM.access (Rect.unit (s := S2x400x10) (k0_off17 k) S1x400x10.size hh)) e0
          (k0_pay3 v21 v24 (k0_pay1 (View.readAt (Elt F) ringM.view (Rect.unit (s := S3x400x10000) (k0_off4 k) S1x400x10000.size h4).toLoadRect (landed c XA (Ring.sl 3 k.val) (Ring.bk 25 k.val) f))
            (View.readAt (Elt F) supM.view (Rect.unit (s := S10000x32) ![0, 0] S10000x32.size h8).toLoadRect fs)
            (View.readAt (Elt F) arg3.view (Rect.unit (s := S1x32) ![0, 0] S1x32.size h3).toLoadRect fb))) Finset.univ))⟩])
      = qBlk c XA arg3 fb fs v21 v24 (Ring.bk 25 k.val) := by
  rw [pay1_eq, copy_q, ← View.write_univ_eq_writes_whole, View.writes_nil, View.read_write_univ]
  rfl

end Values

/-! ## The state before a trip -/

section State
variable (c : Dev nD) (XA : Buf (Elt F) (adjM.view.loc (c : Thread nD τ)))
  (arg3 : Memref sig .tc .vmem S1x32 .f32)
  (fb : Buf (Elt F) (arg3.view.loc (c : Thread nD τ))) (fs : Buf (Elt F) (supM.view.loc (c : Thread nD τ)))
  (v21 : Vec F S10x32 .f32) (v24 : FVec F S1x10 .f32)

/-- Ring slot `s` awaiting its block `n`: on its way if there is such a block, free if there is none. -/
def inState (s : Fin 3) (n : ℕ) : sProp 𝕄 :=
  if n < 25 then iprop(∃ f, inFlight c XA s (Ring.bk 25 n) f) else iprop(ringCellP c s ∗ ∃ f, ringP (F := F) c s f)
/-- A free slot `s` of the two output stages. -/
def outFree (s : Fin 2) : sProp 𝕄 :=
  iprop(hCellP c s ∗ qCellP c s ∗ (∃ f, hstP (F := F) c s f) ∗ (∃ f, qstP (F := F) c s f))
/-- Slot `s` of the two output stages on its way to row block `b` of the results. -/
def outGoing (s : Fin 2) (b : Fin 25) : sProp 𝕄 :=
  iprop((∃ g f, hFlight c s b g f ∗ ⌜(hB b).view.read (Elt F) g = hBlk c XA arg3 fb fs b⌝)
    ∗ (∃ g f, qFlight c s b g f ∗ ⌜(qB b).view.read (Elt F) g = qBlk c XA arg3 fb fs v21 v24 b⌝))
/-- Slot `s` of the output stages before trip `n` uses it: free for the first two trips, then on its way with the
    block of two trips before. -/
def outState (s : Fin 2) (n : ℕ) : sProp 𝕄 :=
  if n < 2 then outFree (F := F) c s else outGoing c XA arg3 fb fs v21 v24 s (Ring.bk 25 (n - 2))
/-- Row block `b` of the results with its final words, -/
def doneP (b : Fin 25) : sProp 𝕄 :=
  iprop((∃ g, hBP c b g ∗ ⌜(hB b).view.read (Elt F) g = hBlk c XA arg3 fb fs b⌝)
    ∗ (∃ g, qBP c b g ∗ ⌜(qB b).view.read (Elt F) g = qBlk c XA arg3 fb fs v21 v24 b⌝))
/-- and not yet written. -/
def todoP (b : Fin 25) : sProp 𝕄 := iprop((∃ g, hBP (F := F) c b g) ∗ (∃ g, qBP (F := F) c b g))

/-- What trip `k` finds. -/
def resAt (k : ℕ) : sProp 𝕄 :=
  iprop((∃ W, owes (c : Thread nD τ) 0 W)
    ∗ (arg3.view.loc (c : Thread nD τ) ↦[arg3.view.set]{fullShare} fb)
    ∗ (supM.view.loc (c : Thread nD τ) ↦[supM.view.set]{fullShare} fs)
    ∗ bigSep (Ring.homeSet 3 k) (homeP c XA)
    ∗ inState c XA (Ring.sl 3 k) k ∗ inState c XA (Ring.sl 3 (k + 1)) (k + 1) ∗ inState c XA (Ring.sl 3 (k + 2)) (k + 2)
    ∗ outState c XA arg3 fb fs v21 v24 (Ring.sl 2 k) k ∗ outState c XA arg3 fb fs v21 v24 (Ring.sl 2 (k + 1)) (k + 1)
    ∗ bigSep (Ring.rangeSet 25 0 (k - 2)) (doneP c XA arg3 fb fs v21 v24)
    ∗ bigSep (Ring.rangeSet 25 k 25) (todoP (F := F) c))

theorem inState_lt (s : Fin 3) {n : ℕ} (h : n < 25) : inState c XA s n = iprop(∃ f, inFlight c XA s (Ring.bk 25 n) f) := if_pos h
theorem inState_ge (s : Fin 3) {n : ℕ} (h : ¬ n < 25) : inState c XA s n = iprop(ringCellP c s ∗ ∃ f, ringP (F := F) c s f) := if_neg h
theorem outState_lt (s : Fin 2) {n : ℕ} (h : n < 2) : outState c XA arg3 fb fs v21 v24 s n = outFree (F := F) c s := if_pos h
theorem outState_ge (s : Fin 2) {n : ℕ} (h : ¬ n < 2) :
    outState c XA arg3 fb fs v21 v24 s n = outGoing c XA arg3 fb fs v21 v24 s (Ring.bk 25 (n - 2)) := if_neg h

/-- After trip `k` the slots it used play the last roles. -/
theorem resAt_succ (k : ℕ) : resAt c XA arg3 fb fs v21 v24 (k + 1) =
  iprop((∃ W, owes (c : Thread nD τ) 0 W)
    ∗ (arg3.view.loc (c : Thread nD τ) ↦[arg3.view.set]{fullShare} fb)
    ∗ (supM.view.loc (c : Thread nD τ) ↦[supM.view.set]{fullShare} fs)
    ∗ bigSep (Ring.homeSet 3 (k + 1)) (homeP c XA)
    ∗ inState c XA (Ring.sl 3 (k + 1)) (k + 1) ∗ inState c XA (Ring.sl 3 (k + 2)) (k + 2) ∗ inState c XA (Ring.sl 3 k) (k + 3)
    ∗ outState c XA arg3 fb fs v21 v24 (Ring.sl 2 (k + 1)) (k + 1) ∗ outGoing c XA arg3 fb fs v21 v24 (Ring.sl 2 k) (Ring.bk 25 k)
    ∗ bigSep (Ring.rangeSet 25 0 (k + 1 - 2)) (doneP c XA arg3 fb fs v21 v24)
    ∗ bigSep (Ring.rangeSet 25 (k + 1) 25) (todoP (F := F) c)) := by
  unfold resAt
  rw [show k + 1 + 1 = k + 2 from rfl, show k + 1 + 2 = k + 3 from rfl, Ring.sl_add 3 k, Ring.sl_add 2 k,
    outState_ge c XA arg3 fb fs v21 v24 (Ring.sl 2 k) (n := k + 2) (by omega), Nat.add_sub_cancel]

/-- The home blocks while a further one goes out, -/
theorem homes_here (k : ℕ) (hk : k + 3 < 25) :
    bigSep (Ring.homeSet 3 k) (homeP c XA) = iprop(homeP c XA (Ring.bk 25 (k + 3)) ∗ bigSep ((Ring.homeSet 3 k).erase (Ring.bk 25 (k + 3))) (homeP c XA)) := by
  conv_lhs => rw [Ring.homeSet_out 3 k hk, bigSep_insert (Ring.bkL_not_mem_erase 3 k)]
  rfl
/-- and after the one awaited has come back. -/
theorem homes_next (k : ℕ) (hk : k + 3 < 25) :
    bigSep (Ring.homeSet 3 (k + 1)) (homeP c XA) = iprop(homeP c XA (Ring.bk 25 k) ∗ bigSep ((Ring.homeSet 3 k).erase (Ring.bk 25 (k + 3))) (homeP c XA)) := by
  conv_lhs => rw [Ring.homeSet_succ 3 k hk, bigSep_insert (Ring.bk_not_mem_erase 3 k (by omega) (by decide))]
  rfl
/-- The last three blocks only come back. -/
theorem homes_tail (k : ℕ) (hk : ¬ k + 3 < 25) (hk' : k < 25) :
    bigSep (Ring.homeSet 3 (k + 1)) (homeP c XA) = iprop(homeP c XA (Ring.bk 25 k) ∗ bigSep (Ring.homeSet 3 k) (homeP c XA)) := by
  conv_lhs => rw [Ring.homeSet_succ_tail 3 k (by omega) hk', bigSep_insert (Ring.bk_not_mem_homeSet 3 k hk' (by decide))]
  rfl

theorem bk_eq {k : ℕ} (h : k < 25) : Ring.bk 25 k = ⟨k, h⟩ := Fin.ext (Ring.bk_val h)

theorem todo_head (k : ℕ) (h : k < 25) :
    bigSep (Ring.rangeSet 25 k 25) (todoP (F := F) c) = iprop(todoP (F := F) c (Ring.bk 25 k) ∗ bigSep (Ring.rangeSet 25 (k + 1) 25) (todoP (F := F) c)) := by
  rw [Ring.bigSep_rangeSet_head h h, bk_eq h]
theorem done_last (k : ℕ) (h2 : 2 ≤ k) (h : k < 25) :
    bigSep (Ring.rangeSet 25 0 (k + 1 - 2)) (doneP c XA arg3 fb fs v21 v24)
      = iprop(doneP c XA arg3 fb fs v21 v24 (Ring.bk 25 (k - 2)) ∗ bigSep (Ring.rangeSet 25 0 (k - 2)) (doneP c XA arg3 fb fs v21 v24)) := by
  obtain ⟨j, rfl⟩ : ∃ j, k = j + 2 := ⟨k - 2, by omega⟩
  rw [show j + 2 + 1 - 2 = j + 1 from rfl, show j + 2 - 2 = j from rfl, Ring.bigSep_rangeSet_last (by omega) (by omega), bk_eq (by omega : j < 25)]
  rfl

/-- The copy a trip starts into the slot it has just read, with the slot's contents before it spelled out. -/
theorem inFlight_after (s : Fin 3) (b b' : Fin 25) :
    inFlight c XA s b' ((ringS s).view.writes (Elt F) (ringS s).view.junk [⟨Rect.whole S400x10000, adjWords c XA b⟩])
      = Transfers.Flight countersEmb (c : Thread nD τ) (SemLoc.dma (ringC s).sem) () 505600
          iprop(((ringS s).view.loc (c : Thread nD τ) ↦[(ringS s).view.set]{fullShare}
                  (ringS s).view.writes (Elt F) (ringS s).view.junk [⟨Rect.whole S400x10000, adjWords c XA b'⟩, ⟨Rect.whole S400x10000, adjWords c XA b⟩])
                ∗ homeP c XA b') := by
  simp only [inFlight, landed, ringP, View.writes]

end State

end Cert.Proof.KernelIdeal

end
-- ==== Proof.KernelIdeal.Trip.lean ====
/-
  ONE TRIP of the kernel's loop, at a symbolic trip: the row block awaited, the two result blocks computed from it
  stored and sent, the next row block started into the freed slot. Three cases, by whether an output slot has an
  earlier copy to await (from trip 2) and whether a further row block is left to start (until trip 21).
-/
module

public import proofs.«01_k».proof.Proof.KernelIdeal.Ring

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ Alg ℕ

section Trip
variable (c : Dev nD) (XA : Buf (Elt F) (adjM.view.loc (c : Thread nD τ)))
  (arg0 : Memref sig .tc .vmem S10000x128 .f32) (harg0 : arg0.IsWhole)
  (arg2 : Memref sig .tc .vmem S128x32 .f32) (harg2 : arg2.IsWhole)
  (arg3 : Memref sig .tc .vmem S1x32 .f32) (harg3 : arg3.IsWhole)
  (arg4 : Memref sig .tc .vmem S10x32 .f32) (harg4 : arg4.IsWhole)
  (fb : Buf (Elt F) (arg3.view.loc (c : Thread nD τ))) (fs : Buf (Elt F) (supM.view.loc (c : Thread nD τ)))
  (v21 : Vec F S10x32 .f32) (v24 : FVec F S1x10 .f32)

abbrev tripG (k : Fin k0_t1_loop.trips) : Prog (TpuEff nD τ sig (Elt F) Λ₀ .tc) Unit :=
  k0_t1_body (F := F) arg0 harg0 adjM (Memref.isWhole_whole _) arg2 harg2 arg3 harg3 arg4 harg4 hM (Memref.isWhole_whole _) qM (Memref.isWhole_whole _) ringM (Memref.isWhole_whole _) supM (Memref.isWhole_whole _) hstM (Memref.isWhole_whole _) qstM (Memref.isWhole_whole _) cc0_scratch4 cc0_scratch5 cc0_scratch6 v21 v24 0#32 k ()

/-- From trip 2 to trip 21: an earlier copy of each result awaited, a further row block started. -/
theorem trip_mid (k : Fin k0_t1_loop.trips) (h2 : 2 ≤ k.val) (h22 : k.val + 3 < 25) :
    resAt c XA arg3 fb fs v21 v24 k.val
    ⊢ wp frame (wpE (defs₀ (F := F)) 𝒱₀ (c : Thread nD τ) none) Set.univ (tripG arg0 harg0 arg2 harg2 arg3 harg3 arg4 harg4 v21 v24 k)
        (fun _ => resAt c XA arg3 fb fs v21 v24 (k.val + 1)) := by
  have c1 := (cond1_iff k).mpr h22
  have c2 := (cond2_iff k).mpr h2
  have hk : k.val < 25 := by omega
  rw [resAt_succ, resAt, homes_here c XA k.val h22, homes_next c XA k.val h22, todo_head c k.val hk, done_last c XA arg3 fb fs v21 v24 k.val h2 hk,
    inState_lt c XA (Ring.sl 3 k.val) hk, inState_lt c XA (Ring.sl 3 k.val) h22, outState_ge c XA arg3 fb fs v21 v24 (Ring.sl 2 k.val) (n := k.val) (by omega)]
  unfold outGoing todoP doneP
  iintro ⟨⟨%W, HW⟩, H3, H8, ⟨Hh, Hhome⟩, ⟨%f0, HF0⟩, HF1, HF2, ⟨⟨%g0, %e0, HFh, %hg0⟩, ⟨%gq, %eq, HFq, %hgq⟩⟩, HO1, Hdone, ⟨⟨⟨%n, Hn⟩, ⟨%n', Hn'⟩⟩, Htodo⟩⟩
  dsimp only [tripG]
  sl_unfold [k0_t1_body]
  sl_exec (disch := first | sl_exact c1 | sl_exact c2)
  sl_step
  sl_exec (disch := first | sl_exact c1 | sl_exact c2)
  sl_step
  isplitl [HW]; · iexists _; iexact HW
  isplitl [H3]; · iexact H3
  isplitl [H8]; · iexact H8
  isplitl [HF0_src Hhome]
  · isplitl [HF0_src]; · iexact HF0_src
    iexact Hhome
  isplitl [HF1]; · iexact HF1
  isplitl [HF2]; · iexact HF2
  isplitl [HF0]
  · iexists ((ringS (Ring.sl 3 k.val)).view.writes (Elt F) (ringS (Ring.sl 3 k.val)).view.junk [⟨Rect.whole S400x10000, adjWords c XA (Ring.bk 25 k.val)⟩])
    irw [inFlight_after]
    iexact HF0
  isplitl [HO1]; · iexact HO1
  isplitl [HFh HFq]
  · isplitl [HFh]
    · iexists _; iexists _
      isplitl [HFh]; · iexact HFh
      ipureintro; exact arrives_h c XA arg3 fb fs k n e0 _ _ _ _ _
    · iexists _; iexists _
      isplitl [HFq]; · iexact HFq
      ipureintro; exact arrives_q c XA arg3 fb fs v21 v24 k n' eq _ _ _ _ _
  isplitl [HFh_dst HFq_dst Hdone]
  · isplitl [HFh_dst HFq_dst]
    · isplitl [HFh_dst]
      · iexists g0; isplitl [HFh_dst]; · iexact HFh_dst
        ipureintro; exact hg0
      · iexists gq; isplitl [HFq_dst]; · iexact HFq_dst
        ipureintro; exact hgq
    iexact Hdone
  iexact Htodo

/-- The first two trips: the output slots are free. -/
theorem trip_first (k : Fin k0_t1_loop.trips) (h2 : ¬ 2 ≤ k.val) :
    resAt c XA arg3 fb fs v21 v24 k.val
    ⊢ wp frame (wpE (defs₀ (F := F)) 𝒱₀ (c : Thread nD τ) none) Set.univ (tripG arg0 harg0 arg2 harg2 arg3 harg3 arg4 harg4 v21 v24 k)
        (fun _ => resAt c XA arg3 fb fs v21 v24 (k.val + 1)) := by
  have h22 : k.val + 3 < 25 := by omega
  have c1 := (cond1_iff k).mpr h22
  have c2 : ¬ k0_cond2 k = 1#1 := mt (cond2_iff k).mp h2
  have hk : k.val < 25 := by omega
  rw [resAt_succ, resAt, homes_here c XA k.val h22, homes_next c XA k.val h22, todo_head c k.val hk,
    show k.val + 1 - 2 = 0 by omega, show k.val - 2 = 0 by omega,
    inState_lt c XA (Ring.sl 3 k.val) hk, inState_lt c XA (Ring.sl 3 k.val) h22, outState_lt c XA arg3 fb fs v21 v24 (Ring.sl 2 k.val) (n := k.val) (by omega)]
  unfold outGoing outFree todoP
  iintro ⟨⟨%W, HW⟩, H3, H8, ⟨Hh, Hhome⟩, ⟨%f0, HF0⟩, HF1, HF2, ⟨HFh, HFq, ⟨%e0, He⟩, ⟨%eq, Heq⟩⟩, HO1, Hdone, ⟨⟨⟨%n, Hn⟩, ⟨%n', Hn'⟩⟩, Htodo⟩⟩
  dsimp only [tripG]
  sl_unfold [k0_t1_body]
  sl_exec (disch := first | sl_exact c1 | sl_exact c2)
  sl_step
  sl_exec (disch := first | sl_exact c1 | sl_exact c2)
  sl_step
  isplitl [HW]; · iexists _; iexact HW
  isplitl [H3]; · iexact H3
  isplitl [H8]; · iexact H8
  isplitl [HF0_src Hhome]
  · isplitl [HF0_src]; · iexact HF0_src
    iexact Hhome
  isplitl [HF1]; · iexact HF1
  isplitl [HF2]; · iexact HF2
  isplitl [HF0]
  · iexists ((ringS (Ring.sl 3 k.val)).view.writes (Elt F) (ringS (Ring.sl 3 k.val)).view.junk [⟨Rect.whole S400x10000, adjWords c XA (Ring.bk 25 k.val)⟩])
    irw [inFlight_after]
    iexact HF0
  isplitl [HO1]; · iexact HO1
  isplitl [HFh HFq]
  · isplitl [HFh]
    · iexists _; iexists _
      isplitl [HFh]; · iexact HFh
      ipureintro; exact arrives_h c XA arg3 fb fs k n e0 _ _ _ _ _
    · iexists _; iexists _
      isplitl [HFq]; · iexact HFq
      ipureintro; exact arrives_q c XA arg3 fb fs v21 v24 k n' eq _ _ _ _ _
  isplitl [Hdone]; · iexact Hdone
  iexact Htodo

/-- The last three trips: no further row block is left to start. -/
theorem trip_last (k : Fin k0_t1_loop.trips) (h22 : ¬ k.val + 3 < 25) :
    resAt c XA arg3 fb fs v21 v24 k.val
    ⊢ wp frame (wpE (defs₀ (F := F)) 𝒱₀ (c : Thread nD τ) none) Set.univ (tripG arg0 harg0 arg2 harg2 arg3 harg3 arg4 harg4 v21 v24 k)
        (fun _ => resAt c XA arg3 fb fs v21 v24 (k.val + 1)) := by
  have h2 : 2 ≤ k.val := by omega
  have c1 : ¬ k0_cond1 k = 1#1 := mt (cond1_iff k).mp h22
  have c2 := (cond2_iff k).mpr h2
  have hk : k.val < 25 := lt_of_lt_of_eq k.isLt trips_eq
  rw [resAt_succ, resAt, homes_tail c XA k.val h22 hk, todo_head c k.val hk, done_last c XA arg3 fb fs v21 v24 k.val h2 hk,
    inState_lt c XA (Ring.sl 3 k.val) hk, inState_ge c XA (Ring.sl 3 k.val) h22, outState_ge c XA arg3 fb fs v21 v24 (Ring.sl 2 k.val) (n := k.val) (by omega)]
  unfold outGoing todoP doneP
  iintro ⟨⟨%W, HW⟩, H3, H8, Hhome, ⟨%f0, HF0⟩, HF1, HF2, ⟨⟨%g0, %e0, HFh, %hg0⟩, ⟨%gq, %eq, HFq, %hgq⟩⟩, HO1, Hdone, ⟨⟨⟨%n, Hn⟩, ⟨%n', Hn'⟩⟩, Htodo⟩⟩
  dsimp only [tripG]
  sl_unfold [k0_t1_body]
  sl_exec (disch := first | sl_exact c1 | sl_exact c2)
  sl_step
  sl_exec (disch := first | sl_exact c1 | sl_exact c2)
  sl_step
  isplitl [HW]; · iexists _; iexact HW
  isplitl [H3]; · iexact H3
  isplitl [H8]; · iexact H8
  isplitl [HF0_src Hhome]
  · isplitl [HF0_src]; · iexact HF0_src
    iexact Hhome
  isplitl [HF1]; · iexact HF1
  isplitl [HF2]; · iexact HF2
  isplitl [HF0 HF0_dst]
  · isplitl [HF0]; · iexact HF0
    iexists _; iexact HF0_dst
  isplitl [HO1]; · iexact HO1
  isplitl [HFh HFq]
  · isplitl [HFh]
    · iexists _; iexists _
      isplitl [HFh]; · iexact HFh
      ipureintro; exact arrives_h c XA arg3 fb fs k n e0 _ _ _ _ _
    · iexists _; iexists _
      isplitl [HFq]; · iexact HFq
      ipureintro; exact arrives_q c XA arg3 fb fs v21 v24 k n' eq _ _ _ _ _
  isplitl [HFh_dst HFq_dst Hdone]
  · isplitl [HFh_dst HFq_dst]
    · isplitl [HFh_dst]
      · iexists g0; isplitl [HFh_dst]; · iexact HFh_dst
        ipureintro; exact hg0
      · iexists gq; isplitl [HFq_dst]; · iexact HFq_dst
        ipureintro; exact hgq
    iexact Hdone
  iexact Htodo

/-- Every trip. -/
theorem trip (k : Fin k0_t1_loop.trips) :
    resAt c XA arg3 fb fs v21 v24 k.val
    ⊢ wp frame (wpE (defs₀ (F := F)) 𝒱₀ (c : Thread nD τ) none) Set.univ (tripG arg0 harg0 arg2 harg2 arg3 harg3 arg4 harg4 v21 v24 k)
        (fun _ => resAt c XA arg3 fb fs v21 v24 (k.val + 1)) := by
  by_cases h2 : 2 ≤ k.val
  · by_cases h22 : k.val + 3 < 25
    · exact trip_mid c XA arg0 harg0 arg2 harg2 arg3 harg3 arg4 harg4 fb fs v21 v24 k h2 h22
    · exact trip_last c XA arg0 harg0 arg2 harg2 arg3 harg3 arg4 harg4 fb fs v21 v24 k h22
  · exact trip_first c XA arg0 harg0 arg2 harg2 arg3 harg3 arg4 harg4 fb fs v21 v24 k h2

set_option warn.classDefReducibility false in
/-- The loop's invariant. -/
@[sl_loop] def loopInv :
    LoopInvTy_k0_t1 (F := F) Unit ℕ Alg ℕ 𝒱₀ c none Set.univ arg0 harg0 adjM (Memref.isWhole_whole _) arg2 harg2 arg3 harg3 arg4 harg4 hM (Memref.isWhole_whole _) qM (Memref.isWhole_whole _) ringM (Memref.isWhole_whole _) supM (Memref.isWhole_whole _) hstM (Memref.isWhole_whole _) qstM (Memref.isWhole_whole _) cc0_scratch4 cc0_scratch5 cc0_scratch6 v21 v24 0#32 where
  inv k _ := resAt c XA arg3 fb fs v21 v24 k
  step k _ := trip c XA arg0 harg0 arg2 harg2 arg3 harg3 arg4 harg4 fb fs v21 v24 k

end Trip
end Cert.Proof.KernelIdeal
end
-- ==== Proof.KernelIdeal.Body.lean ====
/-
  THE KERNEL'S BODY: the prologue (three row blocks started, the support computed), the loop by its invariant, the
  epilogue's four waits.
-/
module

public import proofs.«01_k».proof.Proof.KernelIdeal.Trip

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ Alg ℕ

/-- Equal assertions entail each other. -/
theorem sep_of_eq {P Q : sProp 𝕄} (e : P = Q) : P ⊢ Q := e ▸ .rfl

section Body
variable (c : Dev nD) (XA : Buf (Elt F) (adjM.view.loc (c : Thread nD τ)))
  (arg0 : Memref sig .tc .vmem S10000x128 .f32) (harg0 : arg0.IsWhole)
  (arg2 : Memref sig .tc .vmem S128x32 .f32) (harg2 : arg2.IsWhole)
  (arg3 : Memref sig .tc .vmem S1x32 .f32) (harg3 : arg3.IsWhole)
  (arg4 : Memref sig .tc .vmem S10x32 .f32) (harg4 : arg4.IsWhole)
  (fx : Buf (Elt F) (arg0.view.loc (c : Thread nD τ))) (fw : Buf (Elt F) (arg2.view.loc (c : Thread nD τ)))
  (fb : Buf (Elt F) (arg3.view.loc (c : Thread nD τ))) (fm : Buf (Elt F) (arg4.view.loc (c : Thread nD τ)))

/-- The body on the given operands' buffers; the adjacency matrix, the results, the scratch and the semaphores its own. -/
abbrev bodyG : Prog (TpuEff nD τ sig (Elt F) Λ₀ .tc) PUnit :=
  cc0__gc_dec_kernel arg0 harg0 adjM (Memref.isWhole_whole _) arg2 harg2 arg3 harg3 arg4 harg4 hM (Memref.isWhole_whole _) qM (Memref.isWhole_whole _) ringM (Memref.isWhole_whole _) supM (Memref.isWhole_whole _) hstM (Memref.isWhole_whole _) qstM (Memref.isWhole_whole _) cc0_scratch4 cc0_scratch5 cc0_scratch6

/-- The four operands' buffers. -/
abbrev opsP : sProp 𝕄 :=
  iprop((arg0.view.loc (c : Thread nD τ) ↦[arg0.view.set]{fullShare} fx) ∗ (arg2.view.loc (c : Thread nD τ) ↦[arg2.view.set]{fullShare} fw)
    ∗ (arg3.view.loc (c : Thread nD τ) ↦[arg3.view.set]{fullShare} fb) ∗ (arg4.view.loc (c : Thread nD τ) ↦[arg4.view.set]{fullShare} fm))
/-- What the body is handed besides: every row block at home, the ring's and the stages' slots free, the results' row
    blocks at anything. -/
abbrev PRE (W : Waits sig Unit) : sProp 𝕄 :=
  iprop(opsP c arg0 arg2 arg3 arg4 fx fw fb fm
    ∗ homeP c XA 0 ∗ homeP c XA 1 ∗ homeP c XA 2 ∗ bigSep (Ring.homeSet 3 0) (homeP c XA)
    ∗ (∃ f, ringP (F := F) c 0 f) ∗ (∃ f, ringP (F := F) c 1 f) ∗ (∃ f, ringP (F := F) c 2 f)
    ∗ ringCellP c 0 ∗ ringCellP c 1 ∗ ringCellP c 2
    ∗ outFree (F := F) c 0 ∗ outFree (F := F) c 1
    ∗ (∃ f : Buf (Elt F) (supM.view.loc (c : Thread nD τ)), supM.view.loc (c : Thread nD τ) ↦[supM.view.set]{fullShare} f)
    ∗ bigSep Finset.univ (todoP (F := F) c) ∗ owes (c : Thread nD τ) 0 W)

/-! ## The state at the loop's two ends -/

section Ends
variable (fs : Buf (Elt F) (supM.view.loc (c : Thread nD τ))) (v21 : Vec F S10x32 .f32) (v24 : FVec F S1x10 .f32)

theorem resAt_zero : resAt c XA arg3 fb fs v21 v24 0 =
  iprop((∃ W, owes (c : Thread nD τ) 0 W)
    ∗ (arg3.view.loc (c : Thread nD τ) ↦[arg3.view.set]{fullShare} fb)
    ∗ (supM.view.loc (c : Thread nD τ) ↦[supM.view.set]{fullShare} fs)
    ∗ bigSep (Ring.homeSet 3 0) (homeP c XA)
    ∗ (∃ f, inFlight c XA 0 0 f) ∗ (∃ f, inFlight c XA 1 1 f) ∗ (∃ f, inFlight c XA 2 2 f)
    ∗ outFree (F := F) c 0 ∗ outFree (F := F) c 1
    ∗ emp ∗ bigSep Finset.univ (todoP (F := F) c)) := by
  unfold resAt
  rw [inState_lt c XA _ (show 0 < 25 by omega), inState_lt c XA _ (show 0 + 1 < 25 by omega), inState_lt c XA _ (show 0 + 2 < 25 by omega),
    outState_lt c XA arg3 fb fs v21 v24 _ (show 0 < 2 by omega), outState_lt c XA arg3 fb fs v21 v24 _ (show 0 + 1 < 2 by omega),
    Ring.bigSep_rangeSet_empty (show 0 - 2 ≤ 0 by omega), Ring.rangeSet_univ,
    show Ring.sl 3 0 = 0 from rfl, show Ring.sl 3 (0 + 1) = 1 from rfl, show Ring.sl 3 (0 + 2) = 2 from rfl,
    show Ring.sl 2 0 = 0 from rfl, show Ring.sl 2 (0 + 1) = 1 from rfl,
    show Ring.bk 25 0 = 0 from rfl, show Ring.bk 25 (0 + 1) = 1 from rfl, show Ring.bk 25 (0 + 2) = 2 from rfl]

theorem resAt_last : resAt c XA arg3 fb fs v21 v24 25 =
  iprop((∃ W, owes (c : Thread nD τ) 0 W)
    ∗ (arg3.view.loc (c : Thread nD τ) ↦[arg3.view.set]{fullShare} fb)
    ∗ (supM.view.loc (c : Thread nD τ) ↦[supM.view.set]{fullShare} fs)
    ∗ bigSep Finset.univ (homeP c XA)
    ∗ (ringCellP c 1 ∗ ∃ f, ringP (F := F) c 1 f) ∗ (ringCellP c 2 ∗ ∃ f, ringP (F := F) c 2 f) ∗ (ringCellP c 0 ∗ ∃ f, ringP (F := F) c 0 f)
    ∗ outGoing c XA arg3 fb fs v21 v24 1 23 ∗ outGoing c XA arg3 fb fs v21 v24 0 24
    ∗ bigSep (Ring.rangeSet 25 0 23) (doneP c XA arg3 fb fs v21 v24) ∗ emp) := by
  unfold resAt
  rw [inState_ge c XA _ (show ¬ 25 < 25 by omega), inState_ge c XA _ (show ¬ 25 + 1 < 25 by omega), inState_ge c XA _ (show ¬ 25 + 2 < 25 by omega),
    outState_ge c XA arg3 fb fs v21 v24 _ (show ¬ 25 < 2 by omega), outState_ge c XA arg3 fb fs v21 v24 _ (show ¬ 25 + 1 < 2 by omega),
    Ring.bigSep_rangeSet_empty (show 25 ≤ 25 by omega), Ring.homeSet_last 3 25 (by omega),
    show Ring.sl 3 25 = 1 from rfl, show Ring.sl 3 (25 + 1) = 2 from rfl, show Ring.sl 3 (25 + 2) = 0 from rfl,
    show Ring.sl 2 25 = 1 from rfl, show Ring.sl 2 (25 + 1) = 0 from rfl,
    show Ring.bk 25 (25 - 2) = 23 from rfl, show Ring.bk 25 (25 + 1 - 2) = 24 from rfl]

/-- The first 23 blocks and the last two are all. -/
theorem done_all : iprop(doneP c XA arg3 fb fs v21 v24 23 ∗ doneP c XA arg3 fb fs v21 v24 24 ∗ bigSep (Ring.rangeSet 25 0 23) (doneP c XA arg3 fb fs v21 v24))
    ⊢ bigSep Finset.univ (doneP c XA arg3 fb fs v21 v24) := by
  rw [← Ring.rangeSet_univ (NB := 25), Ring.bigSep_rangeSet_last (show 0 < 25 by omega) (show 25 ≤ 25 by omega),
    Ring.bigSep_rangeSet_last (show 0 < 25 - 1 by omega) (show 25 - 1 ≤ 25 by omega)]
  iintro ⟨H23, H24, H⟩
  isplitl [H24]; · iexact H24
  isplitl [H23]; · iexact H23
  iexact H
end Ends

/-- The cluster centres as the body loads them. -/
abbrev muOf : Vec F S10x32 .f32 := arg4.view.readAt (Elt F) (Rect.unit (s := S10x32) ![0, 0] S10x32.size inb_S10x32_S10x32_0_0).toLoadRect fm
/-- The support's buffer as the body stores it. -/
abbrev supOf : Buf (Elt F) (supM.view.loc (c : Thread nD τ)) :=
  supM.view.writes (Elt F) supM.view.junk [⟨Rect.unit (s := S10000x32) ![0, 0] S10000x32.size inb_S10000x32_S10000x32_0_0,
    k0_pay4 (arg0.view.readAt (Elt F) (Rect.unit (s := S10000x128) ![0, 0] S10000x128.size inb_S10000x128_S10000x128_0_0).toLoadRect fx)
      (arg2.view.readAt (Elt F) (Rect.unit (s := S128x32) ![0, 0] S128x32.size inb_S128x32_S128x32_0_0).toLoadRect fw)⟩]

/-- What the body hands back: the operands, every row block at home, the slots free, every row block of the results
    with its final words. -/
abbrev POST : sProp 𝕄 :=
  iprop(opsP c arg0 arg2 arg3 arg4 fx fw fb fm
    ∗ bigSep Finset.univ (homeP c XA)
    ∗ (∃ f, ringP (F := F) c 0 f) ∗ (∃ f, ringP (F := F) c 1 f) ∗ (∃ f, ringP (F := F) c 2 f)
    ∗ ringCellP c 0 ∗ ringCellP c 1 ∗ ringCellP c 2
    ∗ outFree (F := F) c 0 ∗ outFree (F := F) c 1
    ∗ (∃ f : Buf (Elt F) (supM.view.loc (c : Thread nD τ)), supM.view.loc (c : Thread nD τ) ↦[supM.view.set]{fullShare} f)
    ∗ bigSep Finset.univ (doneP c XA arg3 fb (supOf c arg0 arg2 fx fw) (muOf c arg4 fm) (k0_pay5 (muOf c arg4 fm)))
    ∗ ∃ W, owes (c : Thread nD τ) 0 W)

theorem bodyRun (W) (Q : PUnit → sProp 𝕄) :
    iprop(PRE c XA arg0 arg2 arg3 arg4 fx fw fb fm W ∗ (POST c XA arg0 arg2 arg3 arg4 fx fw fb fm -∗ Q ⟨⟩))
      ⊢ wp frame (wpE (defs₀ (F := F)) 𝒱₀ (c : Thread nD τ) none) Set.univ (bodyG arg0 harg0 arg2 harg2 arg3 harg3 arg4 harg4) Q := by
  iintro ⟨⟨⟨H0, H2, H3, H4⟩, Hh0, Hh1, Hh2, Hh, ⟨%f0, Hs0⟩, ⟨%f1, Hs1⟩, ⟨%f2, Hs2⟩, Hc0, Hc1, Hc2, HO0, HO1, ⟨%f8, H8⟩, Htodo, HW⟩, Hk⟩
  sl_exec
  sl_for (fun k _ => resAt c XA arg3 fb (supOf c arg0 arg2 fx fw) (muOf c arg4 fm) (k0_pay5 (muOf c arg4 fm)) k) $$ [H3 H8 Hh Hc0 Hc1 Hc2 HO0 HO1 Htodo HW]
  · intro k acc
    exact trip c XA arg0 harg0 arg2 harg2 arg3 harg3 arg4 harg4 fb _ _ _ k
  · rw [resAt_zero]
    isplitl [HW]; · iexists _; iexact HW
    isplitl [H3]; · iexact H3
    isplitl [H8]; · iexact H8
    isplitl [Hh]; · iexact Hh
    isplitl [Hc0]; · iexists _; iexact Hc0
    isplitl [Hc1]; · iexists _; iexact Hc1
    isplitl [Hc2]; · iexists _; iexact Hc2
    isplitl [HO0]; · iexact HO0
    isplitl [HO1]; · iexact HO1
    isplitr
    · iempintro
    iexact Htodo
  iintro %acc HI
  ihave HI2 := (sep_of_eq ((congrArg (resAt c XA arg3 fb (supOf c arg0 arg2 fx fw) (muOf c arg4 fm) (k0_pay5 (muOf c arg4 fm))) trips_eq).trans
    (resAt_last c XA arg3 fb (supOf c arg0 arg2 fx fw) (muOf c arg4 fm) (k0_pay5 (muOf c arg4 fm))))) $$ HI
  unfold outGoing
  icases HI2 with ⟨⟨%W', HW⟩, H3, H8, Hh, ⟨Hc1, ⟨%f1', Hs1⟩⟩, ⟨Hc2, ⟨%f2', Hs2⟩⟩, ⟨Hc0, ⟨%f0', Hs0⟩⟩, ⟨⟨%g1, %e1, HA1, %hA1⟩, ⟨%g2, %e2, HA2, %hA2⟩⟩, ⟨⟨%g3, %e3, HA3, %hA3⟩, ⟨%g4, %e4, HA4, %hA4⟩⟩, Hdone, -⟩
  sl_exec
  sl_step
  iapply Hk
  unfold POST opsP outFree
  isplitl [H0 H2 H3 H4]
  · isplitl [H0]; · iexact H0
    isplitl [H2]; · iexact H2
    isplitl [H3]; · iexact H3
    iexact H4
  isplitl [Hh]; · iexact Hh
  isplitl [Hs0]; · iexists _; iexact Hs0
  isplitl [Hs1]; · iexists _; iexact Hs1
  isplitl [Hs2]; · iexists _; iexact Hs2
  isplitl [Hc0]; · iexact Hc0
  isplitl [Hc1]; · iexact Hc1
  isplitl [Hc2]; · iexact Hc2
  isplitl [HA3 HA4 HA3_src HA4_src]
  · isplitl [HA3]; · iexact HA3
    isplitl [HA4]; · iexact HA4
    isplitl [HA3_src]; · iexists _; iexact HA3_src
    iexists _; iexact HA4_src
  isplitl [HA1 HA2 HA1_src HA2_src]
  · isplitl [HA1]; · iexact HA1
    isplitl [HA2]; · iexact HA2
    isplitl [HA1_src]; · iexists _; iexact HA1_src
    iexists _; iexact HA2_src
  isplitl [H8]; · iexists _; iexact H8
  isplitr [HW]
  · iapply (done_all c XA arg3 fb (supOf c arg0 arg2 fx fw) (muOf c arg4 fm) (k0_pay5 (muOf c arg4 fm)))
    unfold doneP
    isplitl [HA1_dst HA2_dst]
    · isplitl [HA1_dst]
      · iexists g1; isplitl [HA1_dst]; · iexact HA1_dst
        ipureintro; exact hA1
      · iexists g2; isplitl [HA2_dst]; · iexact HA2_dst
        ipureintro; exact hA2
    isplitl [HA3_dst HA4_dst]
    · isplitl [HA3_dst]
      · iexists g3; isplitl [HA3_dst]; · iexact HA3_dst
        ipureintro; exact hA3
      · iexists g4; isplitl [HA4_dst]; · iexact HA4_dst
        ipureintro; exact hA4
    iexact Hdone
  iexists _; iexact HW
end Body
end Cert.Proof.KernelIdeal
end
-- ==== Proof.KernelIdeal.Blocks.lean ====
/-
  WHOLE BUFFERS AND THEIR BLOCKS: the adjacency matrix and the two results are their 25 row blocks, the input ring its
  three slots, each output stage its two.
-/
module

public import proofs.«01_k».proof.Proof.KernelIdeal.Body
public import Idealize.ShloMosaic.Lib.Pointwise
public import Idealize.ShloMosaic.Lib.ViewIndex

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ Alg ℕ

/-! ## The element sets -/

section Sets

/-- The rows of block `b`, in an array of 10000 rows. -/
theorem mem_rows {n : Nat} (b : Fin 25) (h) (y : (⟨2, ![10000, n]⟩ : Shape).Idx) :
    y ∈ (Rect.unit (s := ⟨2, ![10000, n]⟩) (blkOff b) ![400, n] h).set ↔ (y 0).val / 400 = b.val := by
  rw [Rect.mem_set_unit]
  have h1 : (y 1).val < n := (y 1).isLt
  constructor
  · intro H
    have a0 : b.val * 400 ≤ (y 0).val ∧ (y 0).val < b.val * 400 + 400 := H 0
    omega
  · intro H i
    fin_cases i
    · show b.val * 400 ≤ (y 0).val ∧ (y 0).val < b.val * 400 + 400; omega
    · show 0 ≤ (y 1).val ∧ (y 1).val < 0 + n; omega
/-- Slot `s` of a stack of `k` blocks of 400 rows. -/
theorem mem_slot {k n : Nat} (s : Fin k) (h) (y : (⟨3, ![k, 400, n]⟩ : Shape).Idx) :
    y ∈ (Rect.unit (s := ⟨3, ![k, 400, n]⟩) (slotOff s) ![1, 400, n] h).set ↔ (y 0).val = s.val := by
  rw [Rect.mem_set_unit]
  have h1 : (y 1).val < 400 := (y 1).isLt
  have h2 : (y 2).val < n := (y 2).isLt
  constructor
  · intro H
    have a0 : s.val ≤ (y 0).val ∧ (y 0).val < s.val + 1 := H 0
    omega
  · intro H i
    fin_cases i
    · show s.val ≤ (y 0).val ∧ (y 0).val < s.val + 1; omega
    · show 0 ≤ (y 1).val ∧ (y 1).val < 0 + 400; omega
    · show 0 ≤ (y 2).val ∧ (y 2).val < 0 + n; omega

/-- Sets told apart by a number of their elements are disjoint; -/
theorem disjoint_of_tag {X B : Type} [DecidableEq X] (I : B → Finset X) (tag : X → Nat) (num : B → Nat) (hnum : Function.Injective num)
    (h : ∀ b y, y ∈ I b ↔ tag y = num b) : ∀ b b', b ≠ b' → Disjoint (I b) (I b') := by
  intro b b' hne
  rw [Finset.disjoint_left]
  intro y hy hy'
  rw [h] at hy hy'
  exact hne (hnum (hy.symm.trans hy'))
/-- and cover everything when every element has a number of theirs. -/
theorem cover_of_tag {X B : Type} [DecidableEq X] [Fintype X] [Fintype B] (I : B → Finset X) (tag : X → Nat) (num : B → Nat)
    (h : ∀ b y, y ∈ I b ↔ tag y = num b) (hex : ∀ y, ∃ b, tag y = num b) : (Finset.univ : Finset B).biUnion I = Finset.univ := by
  ext y
  simp only [Finset.mem_biUnion, Finset.mem_univ, true_and, iff_true]
  obtain ⟨b, hb⟩ := hex y
  exact ⟨b, (h b y).mpr hb⟩

abbrev adjI (b : Fin 25) : Finset S10000x10000.Idx := (Rect.unit (s := S10000x10000) (blkOff b) S400x10000.size (adjOff_inb b)).set
abbrev hI (b : Fin 25) : Finset S10000x32.Idx := (Rect.unit (s := S10000x32) (blkOff b) S400x32.size (hOff_inb b)).set
abbrev qI (b : Fin 25) : Finset S10000x10.Idx := (Rect.unit (s := S10000x10) (blkOff b) S400x10.size (qOff_inb b)).set
abbrev ringI (s : Fin 3) : Finset S3x400x10000.Idx := (Rect.unit (s := S3x400x10000) (slotOff s) S1x400x10000.size (ringOff_inb s)).set
abbrev hstI (s : Fin 2) : Finset S2x400x32.Idx := (Rect.unit (s := S2x400x32) (slotOff s) S1x400x32.size (hstOff_inb s)).set
abbrev qstI (s : Fin 2) : Finset S2x400x10.Idx := (Rect.unit (s := S2x400x10) (slotOff s) S1x400x10.size (qstOff_inb s)).set

theorem adjB_set (b : Fin 25) : (adjB b).view.set = adjI b := View.set_slice_whole _ _
theorem hB_set (b : Fin 25) : (hB b).view.set = hI b := View.set_slice_whole _ _
theorem qB_set (b : Fin 25) : (qB b).view.set = qI b := View.set_slice_whole _ _
theorem ringS_set (s : Fin 3) : (ringS s).view.set = ringI s := (View.set_reshape _ _).trans (View.set_slice_whole _ _)
theorem hstS_set (s : Fin 2) : (hstS s).view.set = hstI s := (View.set_reshape _ _).trans (View.set_slice_whole _ _)
theorem qstS_set (s : Fin 2) : (qstS s).view.set = qstI s := (View.set_reshape _ _).trans (View.set_slice_whole _ _)

theorem mem_adjI (b : Fin 25) (y : S10000x10000.Idx) : y ∈ adjI b ↔ (y 0).val / 400 = b.val := mem_rows b (adjOff_inb b) y
theorem mem_hI (b : Fin 25) (y : S10000x32.Idx) : y ∈ hI b ↔ (y 0).val / 400 = b.val := mem_rows b (hOff_inb b) y
theorem mem_qI (b : Fin 25) (y : S10000x10.Idx) : y ∈ qI b ↔ (y 0).val / 400 = b.val := mem_rows b (qOff_inb b) y
theorem mem_ringI (s : Fin 3) (y : S3x400x10000.Idx) : y ∈ ringI s ↔ (y 0).val = s.val := mem_slot s (ringOff_inb s) y
theorem mem_hstI (s : Fin 2) (y : S2x400x32.Idx) : y ∈ hstI s ↔ (y 0).val = s.val := mem_slot s (hstOff_inb s) y
theorem mem_qstI (s : Fin 2) (y : S2x400x10.Idx) : y ∈ qstI s ↔ (y 0).val = s.val := mem_slot s (qstOff_inb s) y

/-- Every row is in one of the 25 blocks. -/
theorem row_block (r : Fin 10000) : ∃ b : Fin 25, r.val / 400 = b.val := ⟨⟨r.val / 400, by have := r.isLt; omega⟩, rfl⟩
/-- Every slot of a stack is one of its slots. -/
theorem slot_of {k : Nat} (r : Fin k) : ∃ s : Fin k, r.val = s.val := ⟨r, rfl⟩

theorem adj_disjoint : ∀ b b', b ≠ b' → Disjoint (adjI b) (adjI b') := disjoint_of_tag _ (fun y => (y 0).val / 400) Fin.val Fin.val_injective mem_adjI
theorem adj_cover : (Finset.univ : Finset (Fin 25)).biUnion adjI = Finset.univ := cover_of_tag _ _ _ mem_adjI fun y => row_block (y 0)
theorem h_disjoint : ∀ b b', b ≠ b' → Disjoint (hI b) (hI b') := disjoint_of_tag _ (fun y => (y 0).val / 400) Fin.val Fin.val_injective mem_hI
theorem h_cover : (Finset.univ : Finset (Fin 25)).biUnion hI = Finset.univ := cover_of_tag _ _ _ mem_hI fun y => row_block (y 0)
theorem q_disjoint : ∀ b b', b ≠ b' → Disjoint (qI b) (qI b') := disjoint_of_tag _ (fun y => (y 0).val / 400) Fin.val Fin.val_injective mem_qI
theorem q_cover : (Finset.univ : Finset (Fin 25)).biUnion qI = Finset.univ := cover_of_tag _ _ _ mem_qI fun y => row_block (y 0)
theorem ring_disjoint : ∀ s s', s ≠ s' → Disjoint (ringI s) (ringI s') := disjoint_of_tag _ (fun y => (y 0).val) Fin.val Fin.val_injective mem_ringI
theorem ring_cover : (Finset.univ : Finset (Fin 3)).biUnion ringI = Finset.univ := cover_of_tag _ _ _ mem_ringI fun y => slot_of (y 0)
theorem hst_disjoint : ∀ s s', s ≠ s' → Disjoint (hstI s) (hstI s') := disjoint_of_tag _ (fun y => (y 0).val) Fin.val Fin.val_injective mem_hstI
theorem hst_cover : (Finset.univ : Finset (Fin 2)).biUnion hstI = Finset.univ := cover_of_tag _ _ _ mem_hstI fun y => slot_of (y 0)
theorem qst_disjoint : ∀ s s', s ≠ s' → Disjoint (qstI s) (qstI s') := disjoint_of_tag _ (fun y => (y 0).val) Fin.val Fin.val_injective mem_qstI
theorem qst_cover : (Finset.univ : Finset (Fin 2)).biUnion qstI = Finset.univ := cover_of_tag _ _ _ mem_qstI fun y => slot_of (y 0)

end Sets

/-! ## Splitting and joining -/

section Split
variable (c : Dev nD)

theorem homeP_eq (XA : Buf (Elt F) (adjM.view.loc (c : Thread nD τ))) (b : Fin 25) :
    homeP c XA b = (((c : Thread nD τ).loc main_arg1) ↦[adjI b]{fullShare} XA : sProp 𝕄) := by unfold homeP; rw [adjB_set]; rfl
theorem hBP_eq (b : Fin 25) (f) : hBP (F := F) c b f = (((c : Thread nD τ).loc main_v0_0) ↦[hI b]{fullShare} f : sProp 𝕄) := by unfold hBP; rw [hB_set]; rfl
theorem qBP_eq (b : Fin 25) (f) : qBP (F := F) c b f = (((c : Thread nD τ).loc main_v0_1) ↦[qI b]{fullShare} f : sProp 𝕄) := by unfold qBP; rw [qB_set]; rfl
theorem ringP_eq (s : Fin 3) (f) : ringP (F := F) c s f = (((c : Thread nD τ).loc cc0_scratch0) ↦[ringI s]{fullShare} f : sProp 𝕄) := by unfold ringP; rw [ringS_set]; rfl
theorem hstP_eq (s : Fin 2) (f) : hstP (F := F) c s f = (((c : Thread nD τ).loc cc0_scratch2) ↦[hstI s]{fullShare} f : sProp 𝕄) := by unfold hstP; rw [hstS_set]; rfl
theorem qstP_eq (s : Fin 2) (f) : qstP (F := F) c s f = (((c : Thread nD τ).loc cc0_scratch3) ↦[qstI s]{fullShare} f : sProp 𝕄) := by unfold qstP; rw [qstS_set]; rfl

/-- The adjacency matrix whole is its row blocks at home; -/
theorem adj_eq (XA : Buf (Elt F) (adjM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) adjI adj_disjoint adj_cover]
  exact bigSep_congr fun b _ => (homeP_eq c XA b).symm
/-- the first three apart from the rest. -/
theorem homes_three (XA : Buf (Elt F) (adjM.view.loc (c : Thread nD τ))) :
    bigSep Finset.univ (homeP c XA) = iprop(homeP c XA 0 ∗ homeP c XA 1 ∗ homeP c XA 2 ∗ bigSep (Ring.homeSet 3 0) (homeP c XA)) := by
  have e : (Finset.univ : Finset (Fin 25)) = insert 0 (insert 1 (insert 2 (Ring.homeSet (NB := 25) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl

/-- A part held at named contents is held at some. -/
theorem some_part {ℓ : Loc nD τ sig} {B : Type} (I : B → Finset (Idx ℓ)) (f : Buf (Elt F) ℓ) (b : B) :
    (ℓ ↦[I b]{fullShare} f : sProp 𝕄) ⊢ iprop(∃ f : Buf (Elt F) ℓ, ℓ ↦[I b]{fullShare} f) := by
  iintro H; iexists f; iexact H
/-- A buffer held whole is held part by part. -/
theorem parts_of_whole {ℓ : Loc nD τ sig} {B : Type} [Fintype B] [DecidableEq B] (I : B → Finset (Idx ℓ)) (hd : ∀ b b', b ≠ b' → Disjoint (I b) (I b'))
    (hc : (Finset.univ : Finset B).biUnion I = Finset.univ) :
    iprop(∃ f : Buf (Elt F) ℓ, ℓ ↦{fullShare} f) ⊢ (bigSep Finset.univ fun b => iprop(∃ f : Buf (Elt F) ℓ, ℓ ↦[I b]{fullShare} f) : sProp 𝕄) := by
  iintro ⟨%f, H⟩
  iapply (show (ℓ ↦{fullShare} f : sProp 𝕄) ⊢ _ from (sep_of_eq (Ring.pointsTo_blocks I hd hc f)).trans
    (bigSep_mono (Φ := fun b => (ℓ ↦[I b]{fullShare} f : sProp 𝕄)) (fun b _ => some_part I f b)))
  iexact H

theorem ring_split :
    iprop(∃ f : Buf (Elt F) ((c : Thread nD τ).loc cc0_scratch0), ((c : Thread nD τ).loc cc0_scratch0) ↦{fullShare} f)
      ⊢ (iprop((∃ f, ringP c 0 f) ∗ (∃ f, ringP c 1 f) ∗ (∃ f, ringP c 2 f)) : sProp 𝕄) :=
  (parts_of_whole ringI ring_disjoint ring_cover).trans (sep_of_eq (by rw [Ring.bigSep_fin3]; simp only [ringP_eq]; rfl))
theorem ring_join :
    (iprop((∃ f, ringP c 0 f) ∗ (∃ f, ringP c 1 f) ∗ (∃ f, ringP c 2 f)) : sProp 𝕄)
      ⊢ iprop(∃ f : Buf (Elt F) ((c : Thread nD τ).loc cc0_scratch0), ((c : Thread nD τ).loc cc0_scratch0) ↦{fullShare} f) := by
  refine (show _ ⊢ _ from ?_).trans (Ring.pointsTo_blocks_join_exists (ℓ := (c : Thread nD τ).loc cc0_scratch0) ringI ring_disjoint ring_cover (Classical.ofNonempty))
  exact sep_of_eq (by rw [Ring.bigSep_fin3]; simp only [ringP_eq]; rfl)
theorem hst_split :
    iprop(∃ f : Buf (Elt F) ((c : Thread nD τ).loc cc0_scratch2), ((c : Thread nD τ).loc cc0_scratch2) ↦{fullShare} f)
      ⊢ (iprop((∃ f, hstP c 0 f) ∗ (∃ f, hstP c 1 f)) : sProp 𝕄) :=
  (parts_of_whole hstI hst_disjoint hst_cover).trans (sep_of_eq (by rw [Ring.bigSep_fin2]; simp only [hstP_eq]; rfl))
theorem hst_join :
    (iprop((∃ f, hstP c 0 f) ∗ (∃ f, hstP c 1 f)) : sProp 𝕄)
      ⊢ iprop(∃ f : Buf (Elt F) ((c : Thread nD τ).loc cc0_scratch2), ((c : Thread nD τ).loc cc0_scratch2) ↦{fullShare} f) := by
  refine (show _ ⊢ _ from ?_).trans (Ring.pointsTo_blocks_join_exists (ℓ := (c : Thread nD τ).loc cc0_scratch2) hstI hst_disjoint hst_cover (Classical.ofNonempty))
  exact sep_of_eq (by rw [Ring.bigSep_fin2]; simp only [hstP_eq]; rfl)
theorem qst_split :
    iprop(∃ f : Buf (Elt F) ((c : Thread nD τ).loc cc0_scratch3), ((c : Thread nD τ).loc cc0_scratch3) ↦{fullShare} f)
      ⊢ (iprop((∃ f, qstP c 0 f) ∗ (∃ f, qstP c 1 f)) : sProp 𝕄) :=
  (parts_of_whole qstI qst_disjoint qst_cover).trans (sep_of_eq (by rw [Ring.bigSep_fin2]; simp only [qstP_eq]; rfl))
theorem qst_join :
    (iprop((∃ f, qstP c 0 f) ∗ (∃ f, qstP c 1 f)) : sProp 𝕄)
      ⊢ iprop(∃ f : Buf (Elt F) ((c : Thread nD τ).loc cc0_scratch3), ((c : Thread nD τ).loc cc0_scratch3) ↦{fullShare} f) := by
  refine (show _ ⊢ _ from ?_).trans (Ring.pointsTo_blocks_join_exists (ℓ := (c : Thread nD τ).loc cc0_scratch3) qstI qst_disjoint qst_cover (Classical.ofNonempty))
  exact sep_of_eq (by rw [Ring.bigSep_fin2]; simp only [qstP_eq]; rfl)

/-- The blocks not yet written, result by result. -/
theorem todo_eq : (bigSep Finset.univ (todoP (F := F) c) : sProp 𝕄)
    = iprop((bigSep Finset.univ fun b => iprop(∃ f : Buf (Elt F) ((c : Thread nD τ).loc main_v0_0), ((c : Thread nD τ).loc main_v0_0) ↦[hI b]{fullShare} f))
      ∗ (bigSep Finset.univ fun b => iprop(∃ f : Buf (Elt F) ((c : Thread nD τ).loc main_v0_1), ((c : Thread nD τ).loc main_v0_1) ↦[qI b]{fullShare} f))) := by
  unfold todoP
  rw [bigSep_sep']
  simp only [hBP_eq, qBP_eq]
  rfl
/-- The two results whole are their row blocks, not yet written. -/
theorem todo_split (f : Buf (Elt F) ((c : Thread nD τ).loc main_v0_0)) (g : Buf (Elt F) ((c : Thread nD τ).loc main_v0_1)) :
    iprop((((c : Thread nD τ).loc main_v0_0) ↦{fullShare} f) ∗ (((c : Thread nD τ).loc main_v0_1) ↦{fullShare} g))
      ⊢ (bigSep Finset.univ (todoP (F := F) c) : sProp 𝕄) := by
  iintro ⟨H1, H2⟩
  ihave K1 := (parts_of_whole (F := F) (ℓ := (c : Thread nD τ).loc main_v0_0) hI h_disjoint h_cover) $$ [H1]
  · iexists f; iexact H1
  ihave K2 := (parts_of_whole (F := F) (ℓ := (c : Thread nD τ).loc main_v0_1) qI q_disjoint q_cover) $$ [H2]
  · iexists g; iexact H2
  iapply (sep_of_eq (todo_eq c).symm)
  isplitl [K1]; · iexact K1
  iexact K2

/-! ## The results whole -/

section Whole
variable (XA : Buf (Elt F) (adjM.view.loc (c : Thread nD τ)))
  (arg3 : Memref sig .tc .vmem S1x32 .f32) (fb : Buf (Elt F) (arg3.view.loc (c : Thread nD τ)))
  (fs : Buf (Elt F) (supM.view.loc (c : Thread nD τ))) (v21 : Vec F S10x32 .f32) (v24 : FVec F S1x10 .f32)

/-- The row block of a row, and its place there. -/
def rowBlk (r : Fin 10000) : Fin 25 := ⟨r.val / 400, by have := r.isLt; omega⟩
def rowIn (r : Fin 10000) : Fin 400 := ⟨r.val % 400, Nat.mod_lt _ (by omega)⟩
/-- Row `i` of block `b`. -/
def rowAt (b : Fin 25) (i : Fin 400) : Fin 10000 := ⟨b.val * 400 + i.val, by have := b.isLt; have := i.isLt; omega⟩
theorem rowBlk_at (b : Fin 25) (i : Fin 400) : rowBlk (rowAt b i) = b := Fin.ext (by show (b.val * 400 + i.val) / 400 = b.val; have := i.isLt; omega)
theorem rowIn_at (b : Fin 25) (i : Fin 400) : rowIn (rowAt b i) = i := Fin.ext (by show (b.val * 400 + i.val) % 400 = i.val; have := i.isLt; omega)
theorem rowAt_of (r : Fin 10000) : rowAt (rowBlk r) (rowIn r) = r := Fin.ext (by show r.val / 400 * 400 + r.val % 400 = r.val; omega)

/-- Blocks of 400 rows stacked. -/
def stack {n : Nat} {α : Type} (blk : Fin 25 → (⟨2, ![400, n]⟩ : Shape).Idx → α) : (⟨2, ![10000, n]⟩ : Shape).Idx → α :=
  fun y => blk (rowBlk (y 0)) (ix2 (rowIn (y 0)) (y 1))
theorem stack_at {n : Nat} {α : Type} (blk : Fin 25 → (⟨2, ![400, n]⟩ : Shape).Idx → α) (b : Fin 25) (y : (⟨2, ![10000, n]⟩ : Shape).Idx) (j : (⟨2, ![400, n]⟩ : Shape).Idx)
    (i : Fin 400) (hi : j 0 = i) (h0 : y 0 = rowAt b i) (h1 : (y 1).val = (j 1).val) : stack blk y = blk b j := by
  unfold stack
  rw [h0, rowBlk_at, rowIn_at, show (y 1) = (j 1) from Fin.ext h1]
  subst hi
  exact congrArg _ (ix2_eta j)

/-- A row block of stacked blocks is the block. -/
theorem read_stack_h (blk : Fin 25 → S400x32.Idx → Elt F .f32) (b : Fin 25) : (hB b).view.read (Elt F) (stack blk) = blk b := by
  funext j
  exact stack_at blk b _ j (j 0) rfl (Fin.ext (by show b.val * 400 + 1 * (j 0).val = _; rw [Nat.one_mul]; rfl)) (by show 0 + 1 * (j 1).val = _; omega)
theorem read_stack_q (blk : Fin 25 → S400x10.Idx → Elt F .f32) (b : Fin 25) : (qB b).view.read (Elt F) (stack blk) = blk b := by
  funext j
  exact stack_at blk b _ j (j 0) rfl (Fin.ext (by show b.val * 400 + 1 * (j 0).val = _; rw [Nat.one_mul]; rfl)) (by show 0 + 1 * (j 1).val = _; omega)

/-- A view's elements at contents that read `x`, at any other contents that read `x`. -/
theorem pointsTo_same_read {sp : Space} {s : Shape} {e : EltTy} (M : Memref sig .tc sp s e) (g g' : Buf (Elt F) (M.view.loc (c : Thread nD τ)))
    (h : M.view.read (Elt F) g = M.view.read (Elt F) g') :
    (M.view.loc (c : Thread nD τ) ↦[M.view.set]{fullShare} g : sProp 𝕄) = M.view.loc (c : Thread nD τ) ↦[M.view.set]{fullShare} g' :=
  pointsTo_congr fun i hi => by
    obtain ⟨x, -, rfl⟩ := Finset.mem_map.mp hi
    exact View.eq_of_read_eq (congrFun h x)

/-- A row block at contents that read as `X`'s, at `X`. -/
theorem hBP_of (b : Fin 25) (g) (X : Buf (Elt F) ((c : Thread nD τ).loc main_v0_0)) (h : (hB b).view.read (Elt F) g = (hB b).view.read (Elt F) X) :
    hBP c b g ⊢ (((c : Thread nD τ).loc main_v0_0) ↦[hI b]{fullShare} X : sProp 𝕄) :=
  (sep_of_eq (pointsTo_same_read c (hB b) g X h)).trans (sep_of_eq (hBP_eq c b X))
theorem qBP_of (b : Fin 25) (g) (X : Buf (Elt F) ((c : Thread nD τ).loc main_v0_1)) (h : (qB b).view.read (Elt F) g = (qB b).view.read (Elt F) X) :
    qBP c b g ⊢ (((c : Thread nD τ).loc main_v0_1) ↦[qI b]{fullShare} X : sProp 𝕄) :=
  (sep_of_eq (pointsTo_same_read c (qB b) g X h)).trans (sep_of_eq (qBP_eq c b X))

/-- A row block written, of both results. -/
theorem done_one (X : Buf (Elt F) ((c : Thread nD τ).loc main_v0_0)) (Y : Buf (Elt F) ((c : Thread nD τ).loc main_v0_1))
    (hX : X = (stack (hBlk c XA arg3 fb fs) : S10000x32.Idx → Elt F .f32)) (hY : Y = (stack (qBlk c XA arg3 fb fs v21 v24) : S10000x10.Idx → Elt F .f32)) (b : Fin 25) :
    doneP c XA arg3 fb fs v21 v24 b
      ⊢ (iprop((((c : Thread nD τ).loc main_v0_0) ↦[hI b]{fullShare} X) ∗ (((c : Thread nD τ).loc main_v0_1) ↦[qI b]{fullShare} Y)) : sProp 𝕄) := by
  unfold doneP
  iintro ⟨⟨%g, H, %hg⟩, ⟨%g', H', %hg'⟩⟩
  isplitl [H]
  · iapply (hBP_of c b g X (hg.trans ((read_stack_h _ b).symm.trans (congrArg ((hB b).view.read (Elt F)) hX.symm)))); iexact H
  · iapply (qBP_of c b g' Y (hg'.trans ((read_stack_q _ b).symm.trans (congrArg ((qB b).view.read (Elt F)) hY.symm)))); iexact H'
/-- Every row block written, the two results are whole: the blocks stacked. -/
theorem done_join (X : Buf (Elt F) ((c : Thread nD τ).loc main_v0_0)) (Y : Buf (Elt F) ((c : Thread nD τ).loc main_v0_1))
    (hX : X = (stack (hBlk c XA arg3 fb fs) : S10000x32.Idx → Elt F .f32)) (hY : Y = (stack (qBlk c XA arg3 fb fs v21 v24) : S10000x10.Idx → Elt F .f32)) :
    bigSep Finset.univ (doneP c XA arg3 fb fs v21 v24)
      ⊢ (iprop((((c : Thread nD τ).loc main_v0_0) ↦{fullShare} X) ∗ (((c : Thread nD τ).loc main_v0_1) ↦{fullShare} Y)) : sProp 𝕄) := by
  rw [Ring.pointsTo_blocks (ℓ := (c : Thread nD τ).loc main_v0_0) hI h_disjoint h_cover,
    Ring.pointsTo_blocks (ℓ := (c : Thread nD τ).loc main_v0_1) qI q_disjoint q_cover, ← bigSep_sep']
  exact bigSep_mono fun b _ => done_one c XA arg3 fb fs v21 v24 X Y hX hY b
end Whole
end Split
end Cert.Proof.KernelIdeal
end
-- ==== Proof.KernelIdeal.Launch.lean ====
/-
  THE LAUNCH: the run of the whole program, from any memory, to the two results at their row blocks stacked, every
  argument unchanged, every semaphore at rest.
-/
module

public import proofs.«01_k».proof.Proof.KernelIdeal.Blocks
public import proofs.«01_k».proof.Proof.Gen.KernelIdeal.Frame
public import Idealize.ShloMosaic.Lib.Pipeline.FrameValue

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ Alg ℕ
open Idealize.ShloMosaic.Pipeline (Dat Cfg BodyObligation)

/-! ## The blocks of the results as functions of the arrays -/

section Vectors
variable (X : Vec F S10000x128 .f32) (A : Vec F S10000x10000 .f32) (W : Vec F S128x32 .f32) (B : Vec F S1x32 .f32) (M : Vec F S10x32 .f32)

/-- Row block `b` of a matrix. -/
def rowsOf (b : Fin 25) : Vec F S400x10000 .f32 := fun j => A (ix2 (rowAt b (j 0)) (j 1))
/-- Row block `b` of `h`, as the kernel computes it; -/
def hOf (b : Fin 25) : Vec F S400x32 .f32 := k0_pay1 (shapeCast S1x400x10000 (rowsOf A b) cast_in) (k0_pay4 X W) B
/-- of `q`. -/
def qOf (b : Fin 25) : Vec F S400x10 .f32 := shapeCast S400x10 (k0_pay3 M (k0_pay5 M) (hOf X A W B b)) cast_q
end Vectors

section Passage
variable (c : Dev nD) (XA : Buf (Elt F) (adjM.view.loc (c : Thread nD τ)))
  (arg0 : Memref sig .tc .vmem S10000x128 .f32) (arg2 : Memref sig .tc .vmem S128x32 .f32)
  (arg3 : Memref sig .tc .vmem S1x32 .f32) (arg4 : Memref sig .tc .vmem S10x32 .f32)
  (X : Vec F S10000x128 .f32) (W : Vec F S128x32 .f32) (B : Vec F S1x32 .f32) (M : Vec F S10x32 .f32)

/-- The words that arrive of row block `b` are its rows. -/
theorem adjWords_eq (b : Fin 25) : adjWords c XA b = rowsOf (F := F) XA b := by
  funext j
  refine congrArg (fun z : S10000x10000.Idx => XA z) (funext fun a => Fin.ext ?_)
  match a with
  | ⟨0, _⟩ => show b.val * 400 + 1 * (j 0).val = b.val * 400 + (j 0).val; omega
  | ⟨1, _⟩ => show 0 + 1 * (j 1).val = (j 1).val; omega

variable (fx : Buf (Elt F) (arg0.view.loc (c : Thread nD τ))) (fw : Buf (Elt F) (arg2.view.loc (c : Thread nD τ)))
  (fb : Buf (Elt F) (arg3.view.loc (c : Thread nD τ))) (fm : Buf (Elt F) (arg4.view.loc (c : Thread nD τ)))
/-- The support's buffer reads the product it was stored. -/
theorem read_supOf (hx : arg0.view.read (Elt F) fx = X) (hw : arg2.view.read (Elt F) fw = W) :
    supM.view.read (Elt F) (supOf c arg0 arg2 fx fw) = k0_pay4 X W := by
  unfold supOf
  rw [View.read_writes_full, View.readAt_full, View.readAt_full, hx, hw]
/-- The centres as loaded. -/
theorem muOf_eq (hm : arg4.view.read (Elt F) fm = M) : muOf c arg4 fm = M := by
  unfold muOf
  rw [View.readAt_full, hm]

/-- What the body leaves of `h` and of `q` is the stated functions of the arrays. -/
theorem hBlk_eq (hx : arg0.view.read (Elt F) fx = X) (hw : arg2.view.read (Elt F) fw = W) (hb : arg3.view.read (Elt F) fb = B) :
    hBlk c XA arg3 fb (supOf c arg0 arg2 fx fw) = hOf (F := F) X XA W B := by
  funext b
  unfold hBlk hOf
  rw [read_supOf c arg0 arg2 X W fx fw hx hw, hb, adjWords_eq]
theorem qBlk_eq (hx : arg0.view.read (Elt F) fx = X) (hw : arg2.view.read (Elt F) fw = W) (hb : arg3.view.read (Elt F) fb = B)
    (hm : arg4.view.read (Elt F) fm = M) :
    qBlk c XA arg3 fb (supOf c arg0 arg2 fx fw) (muOf c arg4 fm) (k0_pay5 (muOf c arg4 fm)) = qOf (F := F) X XA W B M := by
  funext b
  unfold qBlk qOf
  rw [hBlk_eq c XA arg0 arg2 arg3 X W B fx fw fb hx hw hb, muOf_eq c arg4 M fm hm]
end Passage

section Launch
variable (m : (ℓ : Loc nD τ sig) → Buf (Elt F) ℓ) (ρ : Dev nD → PrngReg)

/-- An input's block, the whole array. -/
theorem emb_0 (t : Fin cfg0.N) (z : S10000x128.Idx) : ((cfg0.win 0).blk t).view.emb z = z := by
  funext a; apply Fin.ext
  match a with
  | ⟨0, _⟩ => show 0 * 10000 + 1 * (z 0).val = (z 0).val; omega
  | ⟨1, _⟩ => show 0 * 128 + 1 * (z 1).val = (z 1).val; omega
theorem iblk_0 (c : Dev nD) (t : Fin cfg0.N) : iblk m c 0 t = V m c main_arg0 := by
  funext z
  exact congrArg (V m c main_arg0) (emb_0 t z)
theorem emb_1 (t : Fin cfg0.N) (z : S128x32.Idx) : ((cfg0.win 1).blk t).view.emb z = z := by
  funext a; apply Fin.ext
  match a with
  | ⟨0, _⟩ => show 0 * 128 + 1 * (z 0).val = (z 0).val; omega
  | ⟨1, _⟩ => show 0 * 32 + 1 * (z 1).val = (z 1).val; omega
theorem iblk_1 (c : Dev nD) (t : Fin cfg0.N) : iblk m c 1 t = V m c main_arg2 := by
  funext z
  exact congrArg (V m c main_arg2) (emb_1 t z)
theorem emb_2 (t : Fin cfg0.N) (z : S1x32.Idx) : ((cfg0.win 2).blk t).view.emb z = z := by
  funext a; apply Fin.ext
  match a with
  | ⟨0, _⟩ => show 0 * 1 + 1 * (z 0).val = (z 0).val; omega
  | ⟨1, _⟩ => show 0 * 32 + 1 * (z 1).val = (z 1).val; omega
theorem iblk_2 (c : Dev nD) (t : Fin cfg0.N) : iblk m c 2 t = V m c main_call0_v0 := by
  funext z
  exact congrArg (V m c main_call0_v0) (emb_2 t z)
theorem emb_3 (t : Fin cfg0.N) (z : S10x32.Idx) : ((cfg0.win 3).blk t).view.emb z = z := by
  funext a; apply Fin.ext
  match a with
  | ⟨0, _⟩ => show 0 * 10 + 1 * (z 0).val = (z 0).val; omega
  | ⟨1, _⟩ => show 0 * 32 + 1 * (z 1).val = (z 1).val; omega
theorem iblk_3 (c : Dev nD) (t : Fin cfg0.N) : iblk m c 3 t = V m c main_arg4 := by
  funext z
  exact congrArg (V m c main_arg4) (emb_3 t z)

/-! ## The invariant -/

/-- The kernel's own semaphores: the ring's three and the two stages' two each. -/
abbrev osem : Fin 7 → SemLoc sig := fun
  | 0 => .dma (ringC 0).sem | 1 => .dma (ringC 1).sem | 2 => .dma (ringC 2).sem
  | 3 => .dma (hstC 0).sem | 4 => .dma (hstC 1).sem | 5 => .dma (qstC 0).sem | 6 => .dma (qstC 1).sem
theorem ownSemFacts : Pipeline.OwnSemFacts spec0 osem := by decide

/-- The buffer the kernel reads by its own copies, and the two it writes. -/
abbrev readSet : Finset (Ref sig .tc) := {main_arg1}
abbrev writtenSet : Finset (Ref sig .tc) := {main_v0_0, main_v0_1}

/-- The two results at the end. -/
def hFinal (c : Dev nD) : Buf (Elt F) ((c : Thread nD τ).loc main_v0_0) :=
  (stack (hOf (F := F) (V m c main_arg0) (V m c main_arg1) (V m c main_arg2) (V m c main_call0_v0)) : S10000x32.Idx → Elt F .f32)
def qFinal (c : Dev nD) : Buf (Elt F) ((c : Thread nD τ).loc main_v0_1) :=
  (stack (qOf (F := F) (V m c main_arg0) (V m c main_arg1) (V m c main_arg2) (V m c main_call0_v0) (V m c main_arg4)) : S10000x10.Idx → Elt F .f32)
/-- The buffers' contents at the end. -/
def G (c : Dev nD) : (b : Ref sig .tc) → Buf (Elt F) ((c : Thread nD τ).loc b) :=
  Function.update (Function.update (V m c) main_v0_0 (hFinal m c)) main_v0_1 (qFinal m c)
theorem G_h (c : Dev nD) : G m c main_v0_0 = hFinal m c := by
  unfold G
  rw [Function.update_of_ne (show main_v0_0 ≠ main_v0_1 by decide), Function.update_self]
theorem G_q (c : Dev nD) : G m c main_v0_1 = qFinal m c := by
  unfold G
  rw [Function.update_self]

theorem bigSep_fin7 {Ψ : Fin 7 → sProp 𝕄} : bigSep Finset.univ Ψ = iprop(Ψ 0 ∗ Ψ 1 ∗ Ψ 2 ∗ Ψ 3 ∗ Ψ 4 ∗ Ψ 5 ∗ Ψ 6) :=
  bigSep_univ_eq_bigSepL [(0 : Fin 7), 1, 2, 3, 4, 5, 6] (by decide) (by decide) Ψ
/-- The semaphores at rest, one by one. -/
theorem ownSems0_eq (c : Dev nD) :
    (Pipeline.ownSems0 (Ix := Unit) (Name := ℕ) (U := Alg) (Lvl := ℕ) (Val := Elt F) (τ := τ) osem c : sProp 𝕄)
      = iprop(ringCellP c 0 ∗ ringCellP c 1 ∗ ringCellP c 2 ∗ hCellP c 0 ∗ hCellP c 1 ∗ qCellP c 0 ∗ qCellP c 1) := by
  unfold Pipeline.ownSems0
  rw [bigSep_fin7]
/-- The two results held, at contents `W`. -/
theorem routed_eq (c : Dev nD) (W : (b : Ref sig .tc) → Buf (Elt F) ((c : Thread nD τ).loc b)) :
    (Pipeline.routed writtenSet c W : sProp 𝕄)
      = iprop((((c : Thread nD τ).loc main_v0_0) ↦{fullShare} W main_v0_0) ∗ (((c : Thread nD τ).loc main_v0_1) ↦{fullShare} W main_v0_1)) := by
  unfold Pipeline.routed
  rw [bigSep_eq_bigSepL_of_eq [main_v0_0, main_v0_1] (by decide) (by decide)]
  simp only [bigSepL_cons_cons, bigSepL_singleton]
  rfl

/-- What the region holds beside the windows, the two results at `W`. -/
abbrev inv (c : Dev nD) (W : (c : Dev nD) → (b : Ref sig .tc) → Buf (Elt F) ((c : Thread nD τ).loc b)) : sProp 𝕄 :=
  Pipeline.ΦDRG osem spec0 readSet writtenSet (V m) W c

/-- The same piece by piece, as the body is given it; -/
theorem inv_eq (c : Dev nD) (W : (c : Dev nD) → (b : Ref sig .tc) → Buf (Elt F) ((c : Thread nD τ).loc b)) :
    inv m c W = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ∗ (∃ r, prngReg c r)
      ∗ (ringCellP c 0 ∗ ringCellP c 1 ∗ ringCellP c 2 ∗ hCellP c 0 ∗ hCellP c 1 ∗ qCellP c 0 ∗ qCellP c 1)
      ∗ bigSep Finset.univ (homeP c (V m c main_arg1))
      ∗ (((c : Thread nD τ).loc main_v0_0) ↦{fullShare} W c main_v0_0) ∗ (((c : Thread nD τ).loc main_v0_1) ↦{fullShare} W c main_v0_1)) := by
  unfold inv
  rw [Pipeline.ΦDRG_eq, scopedRest0_eq, ownSems0_eq, routed_eq, bigSep_singleton, adj_eq]

/-- The proof data: each window's block in place before and after; the results at the launch's contents, then at the
    end's. -/
def dats (_ : Fin 1) (c : Dev nD) : Dat τ (Elt F) Unit ℕ Alg ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then inv m c (V m) else inv m c (G m)
  q _ := fullShare
  owed _ := 0

theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem point_zero (t : Fin cfg0.N) : t.val = 0 := by
  have h := t.isLt
  have e : cfg0.N = 1 := N_0
  omega
theorem Φ_before (c : Dev nD) (t : Fin cfg0.N) : (dats m 0 c).Φ t.castSucc = inv m c (V m) := if_pos (point_zero t)
theorem Φ_after (c : Dev nD) (t : Fin cfg0.N) : (dats m 0 c).Φ t.succ = inv m c (G m) := by
  show (if t.val + 1 = 0 then inv m c (V m) else inv m c (G m)) = _
  exact if_neg (by omega)

theorem Φ_first (c : Dev nD) : (dats m 0 c).Φ 0 = inv m c (V m) := by
  show (if 0 = 0 then inv m c (V m) else inv m c (G m)) = _
  exact if_pos rfl
theorem Φ_last (c : Dev nD) : (dats m 0 c).Φ (Fin.last cfg0.N) = inv m c (G m) := by
  have e : cfg0.N = 1 := N_0
  show (if cfg0.N = 0 then inv m c (V m) else inv m c (G m)) = _
  exact if_neg (by omega)

/-! ## The body's obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) :=
  (congrFun defs_tc _).trans rfl

/-- The support's buffer as its view holds it. -/
theorem sup_eq (c : Dev nD) (f : Buf (Elt F) ((c : Thread nD τ).loc cc0_scratch1)) :
    (supM.view.loc (c : Thread nD τ) ↦[supM.view.set]{fullShare} f : sProp 𝕄) = ((c : Thread nD τ).loc cc0_scratch1) ↦{fullShare} f :=
  congrArg (fun S => (_ ↦[S]{fullShare} f : sProp 𝕄)) (View.set_whole _)

/-- The body's obligation, over the operands as the windows hand them. -/
theorem body_at (c : Dev nD) (t : Fin cfg0.N) (fx fw fb fm) (W : Waits sig Unit)
    (hx : (st0_0 t).view.read (Elt F) fx = iblk m c 0 t) (hw : (st0_1 t).view.read (Elt F) fw = iblk m c 1 t)
    (hb : (st0_2 t).view.read (Elt F) fb = iblk m c 2 t) (hm : (st0_3 t).view.read (Elt F) fm = iblk m c 3 t) (Q : PUnit → sProp 𝕄) :
    iprop(inv m c (V m) ∗ owes (c : Thread nD τ) 0 W ∗ opsP c (st0_0 t) (st0_1 t) (st0_2 t) (st0_3 t) fx fw fb fm
        ∗ ((inv m c (G m) ∗ (∃ W, owes (c : Thread nD τ) 0 W) ∗ opsP c (st0_0 t) (st0_1 t) (st0_2 t) (st0_3 t) fx fw fb fm) -∗ Q ⟨⟩))
      ⊢ wp frame (wpE (defs₀ (F := F)) 𝒱₀ (c : Thread nD τ) none) Set.univ
          (bodyG (st0_0 t) (hstage0_0 0) (st0_1 t) (hstage0_1 0) (st0_2 t) (hstage0_2 0) (st0_3 t) (hstage0_3 0)) Q := by
  rw [inv_eq, inv_eq]
  iintro ⟨⟨⟨Hring, ⟨%f1, Hsup⟩, Hh, Hq⟩, Hg, ⟨Hc0, Hc1, Hc2, Hd0, Hd1, He0, He1⟩, Hhome, Hr0, Hr1⟩, HW, Hops, Hk⟩
  ihave Hring2 := (ring_split c) $$ Hring
  icases Hring2 with ⟨Ha0, Ha1, Ha2⟩
  ihave Hh2 := (hst_split c) $$ Hh
  icases Hh2 with ⟨Hh0, Hh1⟩
  ihave Hq2 := (qst_split c) $$ Hq
  icases Hq2 with ⟨Hq0, Hq1⟩
  ihave Hhome2 := (sep_of_eq (homes_three c (V m c main_arg1))) $$ Hhome
  icases Hhome2 with ⟨Hm0, Hm1, Hm2, Hm⟩
  ihave Htodo := (todo_split c (V m c main_v0_0) (V m c main_v0_1)) $$ [Hr0 Hr1]
  · isplitl [Hr0]; · iexact Hr0
    iexact Hr1
  iapply (bodyRun c (V m c main_arg1) (st0_0 t) (hstage0_0 0) (st0_1 t) (hstage0_1 0) (st0_2 t) (hstage0_2 0) (st0_3 t) (hstage0_3 0) fx fw fb fm W Q)
  isplitr [Hk Hg]
  · isplitl [Hops]; · iexact Hops
    isplitl [Hm0]; · iexact Hm0
    isplitl [Hm1]; · iexact Hm1
    isplitl [Hm2]; · iexact Hm2
    isplitl [Hm]; · iexact Hm
    isplitl [Ha0]; · iexact Ha0
    isplitl [Ha1]; · iexact Ha1
    isplitl [Ha2]; · iexact Ha2
    isplitl [Hc0]; · iexact Hc0
    isplitl [Hc1]; · iexact Hc1
    isplitl [Hc2]; · iexact Hc2
    isplitl [Hd0 He0 Hh0 Hq0]
    · unfold outFree
      isplitl [Hd0]; · iexact Hd0
      isplitl [He0]; · iexact He0
      isplitl [Hh0]; · iexact Hh0
      iexact Hq0
    isplitl [Hd1 He1 Hh1 Hq1]
    · unfold outFree
      isplitl [Hd1]; · iexact Hd1
      isplitl [He1]; · iexact He1
      isplitl [Hh1]; · iexact Hh1
      iexact Hq1
    isplitl [Hsup]
    · iexists f1
      iapply (sep_of_eq (sup_eq c f1).symm); iexact Hsup
    isplitl [Htodo]; · iexact Htodo
    iexact HW
  · unfold POST outFree
    iintro ⟨Hops, Hhome, Ha0, Ha1, Ha2, Hc0, Hc1, Hc2, ⟨Hd0, He0, Hh0, Hq0⟩, ⟨Hd1, He1, Hh1, Hq1⟩, ⟨%f1, Hsup⟩, Hdone, HW⟩
    ihave Hres := (done_join c (V m c main_arg1) (st0_2 t) fb _ _ _ (hFinal m c) (qFinal m c)
      (congrArg stack (hBlk_eq c (V m c main_arg1) (st0_0 t) (st0_1 t) (st0_2 t) _ _ _ fx fw fb (hx.trans (iblk_0 m c t)) (hw.trans (iblk_1 m c t)) (hb.trans (iblk_2 m c t))).symm)
      (congrArg stack (qBlk_eq c (V m c main_arg1) (st0_0 t) (st0_1 t) (st0_2 t) (st0_3 t) _ _ _ _ fx fw fb fm (hx.trans (iblk_0 m c t)) (hw.trans (iblk_1 m c t)) (hb.trans (iblk_2 m c t)) (hm.trans (iblk_3 m c t))).symm)) $$ Hdone
    icases Hres with ⟨Hr0, Hr1⟩
    iapply Hk
    isplitr [HW Hops]
    · isplitl [Ha0 Ha1 Ha2 Hsup Hh0 Hh1 Hq0 Hq1]
      · isplitl [Ha0 Ha1 Ha2]
        · iapply (ring_join c)
          isplitl [Ha0]; · iexact Ha0
          isplitl [Ha1]; · iexact Ha1
          iexact Ha2
        isplitl [Hsup]
        · iexists f1
          iapply (sep_of_eq (sup_eq c f1)); iexact Hsup
        isplitl [Hh0 Hh1]
        · iapply (hst_join c)
          isplitl [Hh0]; · iexact Hh0
          iexact Hh1
        iapply (qst_join c)
        isplitl [Hq0]; · iexact Hq0
        iexact Hq1
      isplitl [Hg]; · iexact Hg
      isplitl [Hc0 Hc1 Hc2 Hd0 Hd1 He0 He1]
      · isplitl [Hc0]; · iexact Hc0
        isplitl [Hc1]; · iexact Hc1
        isplitl [Hc2]; · iexact Hc2
        isplitl [Hd0]; · iexact Hd0
        isplitl [Hd1]; · iexact Hd1
        isplitl [He0]; · iexact He0
        iexact He1
      isplitl [Hhome]; · iexact Hhome
      rw [G_h, G_q]
      isplitl [Hr0]; · iexact Hr0
      iexact Hr1
    isplitl [HW]; · iexact HW
    iexact Hops

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_0, before_1, before_2, before_3, after_0, after_1, after_2, after_3]
  rw [Φ_before, Φ_after]
  unfold Dat.owesAt Pipeline.owesWithin
  rw [show (dats m 0 c).owed t.castSucc = 0 from rfl, show (dats m 0 c).owed t.succ = 0 from rfl]
  unfold owns
  iintro ⟨HI, ⟨%W, -, HW⟩, ⟨%d0, %fx, %hx, H0⟩, ⟨%d1, %fw, %hw, H1⟩, ⟨%d2, %fb, %hb, H2⟩, ⟨%d3, %fm, %hm, H3⟩⟩
  sl_rw [prog_eq t]
  iapply (body_at m c t fx fw fb fm W hx hw hb hm)
  isplitl [HI]; · iexact HI
  isplitl [HW]; · iexact HW
  isplitl [H0 H1 H2 H3]
  · isplitl [H0]; · iexact H0
    isplitl [H1]; · iexact H1
    isplitl [H2]; · iexact H2
    iexact H3
  · iintro ⟨HI, ⟨%W', HW⟩, ⟨H0, H1, H2, H3⟩⟩
    isplitl [HI]; · iexact HI
    isplitl [HW]
    · iexists W'; isplitr; · ipureintro; exact fun _ _ => Or.inl trivial
      iexact HW
    isplitl [H0]
    · iexists fx; isplitr; · ipureintro; exact hx
      iexact H0
    isplitl [H1]
    · iexists fw; isplitr; · ipureintro; exact hw
      iexact H1
    isplitl [H2]
    · iexists fb; isplitr; · ipureintro; exact hb
      iexact H2
    iexists fm; isplitr; · ipureintro; exact hm
    iexact H3

/-! ## The run -/

set_option maxHeartbeats 800000 in
theorem host_prefix : Pipeline.HMain (Ix := Unit) (Name := ℕ) (U := Alg) (Lvl := ℕ) cfgs 0 (defs₀ (F := F)) 𝒱₀ m (main (F := F)) (V m) :=
  Pipeline.hmain_prefix cfgs 0 defs₀ 𝒱₀ m main hostOps0 hostOps0_sub hostOps0_fresh main_chain

/-- What a run ends at: every argument as launched, the two results at their blocks stacked. -/
def EndsAt (s : MemSt nD τ sig (Elt F)) : Prop := ∀ c : Dev nD,
  (s.mem ((c : Thread nD τ).loc main_v0_0) = hFinal m c ∧ s.mem ((c : Thread nD τ).loc main_v0_1) = qFinal m c)
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem ends_of_post (r : PUnit × MemSt nD τ sig (Elt F)) (h : Pipeline.FramePostRG cfgs (dats m) 0 writtenSet (V m) (G m) r) : EndsAt m r.2 := fun c => by
  have hw : ∀ w : Fin cfg0.W, (dats m 0 c).A w = V m c (Pipeline.arrRef spec0 w) := fun _ => rfl
  exact ⟨⟨(h.written c (by decide)).trans (G_h m c), (h.written c (by decide)).trans (G_q m c)⟩,
    ((h.toR c).1 0).trans (((dats m 0 c).arrAt_in 0 rfl _).trans ((hw 0).trans (V_main_arg0 m c))),
    ((h.toR c).2 main_arg1 (Finset.mem_sdiff.mpr ⟨Pipeline.mem_restRefs_of main_arg1 (by decide) (by decide), by decide⟩)).trans (V_main_arg1 m c),
    ((h.toR c).1 1).trans (((dats m 0 c).arrAt_in 1 rfl _).trans ((hw 1).trans (V_main_arg2 m c))),
    ((h.toR c).2 main_arg3 (Finset.mem_sdiff.mpr ⟨Pipeline.mem_restRefs_of main_arg3 (by decide) (by decide), by decide⟩)).trans (V_main_arg3 m c),
    ((h.toR c).1 3).trans (((dats m 0 c).arrAt_in 3 rfl _).trans ((hw 3).trans (V_main_arg4 m c)))⟩

/-- Every run ends there, and every semaphore is at rest. -/
theorem run_main : θ_run defs (onTc (τ := τ) (main (F := F))) (s₀ m ρ) (fun r => EndsAt m r.2 ∧ r.2.sem = fun _ => 0) :=
  Pipeline.θ_run_frame_dmaRG cfgs (dats m) 0 launch0 osem defs₀ 𝒱₀ ownSemFacts readSet writtenSet (by decide) (by decide) m ρ main
    (hbody := fun c => (body_obligation m c).loose) (hshare := fun c => (dats m 0 c).share_full fun _ => rfl) (howed := fun _ _ => rfl)
    (V := V m) (hmain := host_prefix m) (hA := fun _ _ => rfl) (G := G m)
    (hin := fun c => sep_of_eq ((Φ_first m c).symm))
    (hout := fun c => sep_of_eq (Φ_last m c))
    (Q' := fun r => EndsAt m r.2 ∧ r.2.sem = fun _ => 0)
    (hQ' := fun r h => ⟨ends_of_post m r h.1, h.2⟩)
end Launch
end Cert.Proof.KernelIdeal
end
-- ==== Proof.Same.lean ====
/-
  THE TWO KERNEL PROGRAMS ARE ONE. The ideal program is the kernel with no operation rewritten, so a run of it, which is
  proved for floats of any kind, is a run of the kernel as printed.
-/
module

public import proofs.«01_k».proof.Proof.KernelIdeal.Launch
public import proofs.«01_k».proof.Proof.Gen.Kernel

@[expose] public section

set_option maxRecDepth 16384

noncomputable section

namespace Cert.Proof

open Idealize.ShloMosaic Idealize.ShloMosaic.TcCoe Idealize.SL.Sem

/-- The kernel's body is the ideal program's; -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
/-- so is its pipeline around the body. -/
theorem defs_same : Cert.Kernel.defs (F := Bits) = Cert.KernelIdeal.defs (F := Bits) :=
  congrArg (Pipeline.defs (Cert.Kernel.pcfgs (F := Bits))) bodies_same

/-- The kernel as printed runs, its arguments unchanged and every semaphore at rest. -/
theorem frame_kernel : Cert.quiescent_Kernel := fun m g _ => by
  rw [defs_same]
  exact (θ_run (Cert.KernelIdeal.defs (F := Bits)) _ _).mono (fun _ h => ⟨fun c => (h.1 c).2, h.2⟩) (Cert.Proof.KernelIdeal.run_main (F := Bits) m g)

end Cert.Proof

end
-- ==== Proof.Algebra.lean ====
/-
  THE MATHEMATICS, without the programs: the graph convolution `conv`, the squared distance in the two forms it is
  computed in, the soft assignment `soft` of a row of distances, and why the two forms give the same assignment.
-/
module

public import Idealize.ShloMosaic.Lib.Pointwise

@[expose] public section

noncomputable section

namespace Cert.Proof.Algebra

open Idealize.ShloMosaic

/-! ## Extended reals that are real numbers -/

/-- `x` is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩
/-- What is below the upper infinity with its negation is real. -/
theorem isReal_of_abs_lt {x : EReal} (h : max x (-x) < ⊤) : IsReal x := by
  have h1 : x < ⊤ := (le_max_left _ _).trans_lt h
  have h2 : -x < ⊤ := (le_max_right _ _).trans_lt h
  refine ⟨x.toReal, (EReal.coe_toReal h1.ne ?_).symm⟩
  rintro rfl
  simp at h2
/-- What is not real is an infinity. -/
theorem infinite_of_not_isReal {x : EReal} (h : ¬ IsReal x) : x = ⊤ ∨ x = ⊥ := by
  induction x with
  | bot => exact .inr rfl
  | top => exact .inl rfl
  | coe r => exact absurd ⟨r, rfl⟩ h
/-- A square is not negative; -/
theorem square_nonneg (x : EReal) : 0 ≤ x * x := by
  induction x with
  | bot => simp
  | top => simp
  | coe r => exact_mod_cast mul_self_nonneg r
/-- that of an infinity is the upper one, -/
theorem square_infinite {x : EReal} (h : ¬ IsReal x) : x * x = ⊤ := by
  rcases infinite_of_not_isReal h with rfl | rfl <;> simp
/-- and so is every sum of squares that has an infinity in it. -/
theorem sum_squares_top {n : Nat} (f : Fin n → EReal) (d : Fin n) (h : ¬ IsReal (f d)) : ∑ e, f e * f e = ⊤ :=
  top_le_iff.1 ((square_infinite h).symm.le.trans (Finset.single_le_sum (f := fun e => f e * f e) (fun e _ => square_nonneg _) (Finset.mem_univ d)))
theorem sum_squares_nonneg {n : Nat} (f : Fin n → EReal) : 0 ≤ ∑ e, f e * f e := Finset.sum_nonneg fun e _ => square_nonneg _
/-- A difference with an infinity in it is infinite. -/
theorem sub_infinite {x y : EReal} (h : ¬ (IsReal x ∧ IsReal y)) : ¬ IsReal (x - y) := by
  rintro ⟨r, hr⟩
  induction x with
  | bot => simp at hr
  | top => induction y with
    | bot => simp at hr
    | top => simp at hr
    | coe b => simp at hr
  | coe a => induction y with
    | bot => simp at hr
    | top => simp at hr
    | coe b => exact h ⟨⟨a, rfl⟩, ⟨b, rfl⟩⟩
/-- Two terms that are not negative, one of them infinite, stay infinite whatever is taken off. -/
theorem around_infinite {a b : EReal} (z : EReal) (ha : 0 ≤ a) (hb : 0 ≤ b) (h : a = ⊤ ∨ b = ⊤) : a - z + b = ⊤ ∨ a - z + b = ⊥ := by
  induction z with
  | top => right; simp [sub_eq_add_neg]
  | bot =>
    left
    rw [sub_eq_add_neg, EReal.neg_bot, EReal.add_top_of_ne_bot (ne_bot_of_le_ne_bot (by simp) ha), EReal.top_add_of_ne_bot (ne_bot_of_le_ne_bot (by simp) hb)]
  | coe r =>
    left
    rcases h with rfl | rfl
    · rw [EReal.top_sub_coe, EReal.top_add_of_ne_bot (ne_bot_of_le_ne_bot (by simp) hb)]
    · refine EReal.add_top_of_ne_bot fun e => ?_
      induction a with
      | bot => simp at ha
      | top => simp at e
      | coe q => exact absurd e (by rw [← EReal.coe_sub]; exact EReal.coe_ne_bot _)

/-! ## The two forms of the squared distance -/

/-- The squared distance of two vectors, the square opened: `|h|² − 2 h·μ + |μ|²`; -/
def opened {n : Nat} (h μ : Fin n → EReal) : EReal := (∑ d, h d * h d) - 2 * (∑ d, h d * μ d) + ∑ d, μ d * μ d
/-- as it is defined: `Σ (h − μ)²`. -/
def direct {n : Nat} (h μ : Fin n → EReal) : EReal := ∑ d, (h d - μ d) * (h d - μ d)

/-- On real vectors they are equal. -/
theorem opened_eq_direct {n : Nat} (h μ : Fin n → EReal) (hh : ∀ d, IsReal (h d)) (hμ : ∀ d, IsReal (μ d)) : opened h μ = direct h μ := by
  choose a ha using hh
  choose b hb using hμ
  have e : (∑ d, a d * a d) - 2 * (∑ d, a d * b d) + (∑ d, b d * b d) = ∑ d, (a d - b d) * (a d - b d) := by
    rw [Finset.mul_sum, ← Finset.sum_sub_distrib, ← Finset.sum_add_distrib]
    exact Finset.sum_congr rfl fun d _ => by ring
  have e2 := congrArg (fun r : ℝ => (r : EReal)) e
  simp only [EReal.coe_add, EReal.coe_sub, EReal.coe_mul, coe_sum] at e2
  unfold opened direct
  simp only [ha, hb]
  exact e2

/-- Where an infinity enters, the second is `⊤`; -/
theorem direct_top {n : Nat} (h μ : Fin n → EReal) (d : Fin n) (hd : ¬ (IsReal (h d) ∧ IsReal (μ d))) : direct h μ = ⊤ :=
  sum_squares_top (fun d => h d - μ d) d (sub_infinite hd)
/-- the first is one of the two infinities. -/
theorem opened_infinite {n : Nat} (h μ : Fin n → EReal) (d : Fin n) (hd : ¬ (IsReal (h d) ∧ IsReal (μ d))) : opened h μ = ⊤ ∨ opened h μ = ⊥ := by
  refine around_infinite _ (sum_squares_nonneg h) (sum_squares_nonneg μ) ?_
  by_cases hh : IsReal (h d)
  · exact .inr (sum_squares_top μ d fun hm => hd ⟨hh, hm⟩)
  · exact .inl (sum_squares_top h d hh)

/-! ## The convolution and the soft assignment -/

/-- One entry of `h`: row `r` of the adjacency against the product of `x` and `W`, with the bias. -/
def conv {n k l d : Nat} (X : Fin k → Fin l → EReal) (A : Fin n → Fin k → EReal) (W : Fin l → Fin d → EReal) (b : Fin d → EReal) (r : Fin n) (e : Fin d) : EReal :=
  (∑ i, A r i * ∑ j, X i j * W j e) + b e
theorem conv_isReal {n k l d : Nat} {X : Fin k → Fin l → EReal} {A : Fin n → Fin k → EReal} {W : Fin l → Fin d → EReal} {b : Fin d → EReal}
    (hX : ∀ i j, IsReal (X i j)) (hA : ∀ i j, IsReal (A i j)) (hW : ∀ i j, IsReal (W i j)) (hb : ∀ i, IsReal (b i)) (r : Fin n) (e : Fin d) :
    IsReal (conv X A W b r e) :=
  (IsReal.sum fun i => (hA r i).mul (IsReal.sum fun j => (hX i j).mul (hW j e))).add (hb e)

/-- The Student weight of a squared distance `z`: `(1 / (1 + z / 0.2 + 1e-8)) ^ 1.2 / 2`, the constants as stored. -/
def weight (z : EReal) : EReal :=
  Ideal.div (Ideal.pow (Ideal.div 1 (1 + Ideal.div z (Ideal.ofBits .f32 0x3E4CCCCD#32) + Ideal.ofBits .f32 0x322BCC77#32)) (Ideal.ofBits .f32 0x3F99999A#32))
    (Ideal.ofBits .f32 0x40000000#32)
/-- A row of distances to a row of shares. -/
def soft {n : Nat} (z : Fin n → EReal) (c : Fin n) : EReal := Ideal.div (weight (z c)) (∑ e, weight (z e))

/-- The row of shares depends on the distances by their weights alone. -/
theorem soft_congr {n : Nat} {z z' : Fin n → EReal} (h : ∀ e, weight (z e) = weight (z' e)) : soft z = soft z' := by
  funext c
  simp only [soft, h]

/-- The word nearest to 0.2 is a positive real number; -/
theorem fifth_word : ∃ r : ℝ, 0 < r ∧ Ideal.ofBits .f32 0x3E4CCCCD#32 = (r : EReal) := by
  refine ⟨_, ?_, by simp [Ideal.ofBits, Ideal.ieee, -EReal.coe_mul]; rfl⟩
  norm_num
/-- the word nearest to 1e-8 is real. -/
theorem small_word : IsReal (Ideal.ofBits .f32 0x322BCC77#32) :=
  ⟨_, by simp [Ideal.ofBits, Ideal.ieee, -EReal.coe_mul]; rfl⟩
/-- A distance at either infinity has the same weight: its reciprocal is 0. -/
theorem weight_bot : weight ⊥ = weight ⊤ := by
  obtain ⟨r, hr, e⟩ := fifth_word
  obtain ⟨s, e'⟩ := small_word
  have hr' : ((r : ℝ) : EReal) ≠ 0 := by exact_mod_cast hr.ne'
  have hi : (0 : EReal) < (r : EReal)⁻¹ := by rw [← EReal.coe_inv]; exact_mod_cast inv_pos.2 hr
  have h1 : Ideal.div 1 (1 + Ideal.div ⊥ (r : EReal) + (s : EReal)) = 0 := by
    rw [Ideal.div, Ideal.div, if_neg hr', EReal.bot_mul_of_pos hi]
    simp
  have h2 : Ideal.div 1 (1 + Ideal.div ⊤ (r : EReal) + (s : EReal)) = 0 := by
    rw [Ideal.div, Ideal.div, if_neg hr', EReal.top_mul_of_pos hi, show (1 : EReal) + ⊤ + s = ⊤ by
      rw [EReal.add_top_of_ne_bot (show (1 : EReal) ≠ ⊥ from EReal.coe_ne_bot 1), EReal.top_add_coe]]
    simp
  unfold weight
  rw [e, e', h1, h2]
/-- The two forms of the squared distance have the same weight, on all extended reals. -/
theorem weight_opened {n : Nat} (h μ : Fin n → EReal) : weight (opened h μ) = weight (direct h μ) := by
  by_cases hr : ∀ d, IsReal (h d) ∧ IsReal (μ d)
  · rw [opened_eq_direct h μ (fun d => (hr d).1) fun d => (hr d).2]
  · obtain ⟨d, hd⟩ := not_forall.1 hr
    rw [direct_top h μ d hd]
    rcases opened_infinite h μ d hd with e | e <;> rw [e]
    exact weight_bot

/-- The word `0x40000000` is two. -/
theorem two_word : Ideal.ofBits .f32 0x40000000#32 = 2 := by
  rw [show (2 : EReal) = ((2 : ℝ) : EReal) by norm_cast]
  simp [Ideal.ofBits, Ideal.ieee, -EReal.coe_mul]; norm_num

/-- The word `0x7F800000` is the upper infinity. -/
theorem top_word : Ideal.ofBits .f32 0x7F800000#32 = ⊤ := by
  simp [Ideal.ofBits, Ideal.ieee]
/-- The word `0x3F800000` is one. -/
theorem one_word : Ideal.ofBits .f32 0x3F800000#32 = 1 := by
  rw [show (1 : EReal) = ((1 : ℝ) : EReal) by norm_cast]
  simp [Ideal.ofBits, Ideal.ieee, -EReal.coe_mul]; norm_num

/-! ## A row of shares is a distribution -/

/-- A quotient of real numbers, the divisor not zero. -/
theorem div_coe (x : ℝ) {y : ℝ} (hy : y ≠ 0) : Ideal.div (x : EReal) (y : EReal) = ((x / y : ℝ) : EReal) := by
  rw [Ideal.div, if_neg (by exact_mod_cast hy), ← EReal.coe_inv, ← EReal.coe_mul, div_eq_mul_inv]
/-- The exponent, 1.2 as stored, is real. -/
theorem exponent_word : IsReal (Ideal.ofBits .f32 0x3F99999A#32) :=
  ⟨_, by simp [Ideal.ofBits, Ideal.ieee, -EReal.coe_mul]; rfl⟩
/-- The word nearest to 1e-8 is not negative. -/
theorem small_word_nonneg : 0 ≤ Ideal.ofBits .f32 0x322BCC77#32 := by
  simp [Ideal.ofBits, Ideal.ieee, -EReal.coe_mul]
/-- The weight of a real distance is a positive real number. -/
theorem weight_pos {z : ℝ} (hz : 0 ≤ z) : ∃ w : ℝ, 0 < w ∧ weight (z : EReal) = (w : EReal) := by
  obtain ⟨r, hr, er⟩ := fifth_word
  obtain ⟨s, es⟩ := small_word
  obtain ⟨y, ey⟩ := exponent_word
  have hs : 0 ≤ s := by have h := small_word_nonneg; rw [es] at h; exact_mod_cast h
  have hp : 0 < 1 + z / r + s := by have := div_nonneg hz hr.le; linarith
  refine ⟨Real.rpow (1 / (1 + z / r + s)) y / 2, div_pos (Real.rpow_pos_of_pos (one_div_pos.2 hp) y) two_pos, ?_⟩
  unfold weight
  rw [er, es, ey, two_word, div_coe z hr.ne', show (1 : EReal) = ((1 : ℝ) : EReal) from rfl, ← EReal.coe_add, ← EReal.coe_add, div_coe 1 hp.ne']
  exact div_coe _ two_ne_zero
/-- The squared distance of real vectors is real and not negative. -/
theorem direct_real {n : Nat} {h μ : Fin n → EReal} (hh : ∀ d, IsReal (h d)) (hμ : ∀ d, IsReal (μ d)) : ∃ z : ℝ, 0 ≤ z ∧ direct h μ = (z : EReal) := by
  choose a ha using hh
  choose b hb using hμ
  refine ⟨∑ d, (a d - b d) * (a d - b d), Finset.sum_nonneg fun d _ => mul_self_nonneg _, ?_⟩
  rw [coe_sum]
  refine Finset.sum_congr rfl fun d _ => ?_
  rw [ha, hb, EReal.coe_mul, EReal.coe_sub]
/-- Of positive real weights the shares are real, not negative, and add up to one. -/
theorem soft_shares {n : Nat} (hn : 0 < n) {z : Fin n → EReal} (h : ∀ e, ∃ w : ℝ, 0 < w ∧ weight (z e) = (w : EReal)) :
    (∀ e, 0 ≤ soft z e) ∧ ∑ e, soft z e = 1 := by
  choose w hw ew using h
  have hS : 0 < ∑ e, w e := Finset.sum_pos (fun e _ => hw e) ⟨⟨0, hn⟩, Finset.mem_univ _⟩
  have e1 : ∀ e, soft z e = ((w e / ∑ e, w e : ℝ) : EReal) := fun e => by
    unfold soft
    simp only [ew]
    rw [← coe_sum, div_coe _ hS.ne']
  refine ⟨fun e => ?_, ?_⟩
  · rw [e1]; exact_mod_cast (div_pos (hw e) hS).le
  · simp only [e1]
    rw [← coe_sum, ← Finset.sum_div, div_self hS.ne']
    rfl

/-! ## The arguments as functions of their coordinates -/

/-- A matrix, by row and column. -/
abbrev mat {a b : Nat} (X : (⟨2, ![a, b]⟩ : Shape).Idx → EReal) (i : Fin a) (j : Fin b) : EReal := X (ix2 i j)
/-- A vector, by position. -/
abbrev vec {a : Nat} (b : (⟨1, ![a]⟩ : Shape).Idx → EReal) (i : Fin a) : EReal := b (ix1 i)

end Cert.Proof.Algebra

end
-- ==== Proof.KernelValues.lean ====
/-
  THE KERNEL'S RESULTS, entry by entry, as the mathematics of Algebra.lean.
-/
module

public import proofs.«01_k».proof.Proof.Algebra
public import proofs.«01_k».proof.Proof.KernelIdeal.Launch
public import Idealize.ShloMosaic.Lib.Pointwise

@[expose] public section

set_option maxRecDepth 16384

noncomputable section

namespace Cert.Proof.KernelValues

open Cert.KernelIdeal Cert.KernelIdeal.Gen Cert.Proof.KernelIdeal Cert.Proof.Algebra
open Idealize.ShloMosaic
open Idealize.ShloMosaic.TcCoe Idealize.ShloMosaic.Tactic

section Blocks
variable (X : Vec Ideal S10000x128 .f32) (A : Vec Ideal S10000x10000 .f32) (W : Vec Ideal S128x32 .f32) (B : Vec Ideal S1x32 .f32) (M : Vec Ideal S10x32 .f32)

/-! ## The kernel's row blocks -/

/-- Row `i` of block `b` of `h` is row `400 b + i` of the convolution. -/
theorem hOf_at (b : Fin 25) (i : Fin 400) (d : Fin 32) :
    hOf X A W B b (ix2 i d) = conv (mat X) (mat A) (mat W) (fun e => B (ix2 0 e)) (rowAt b i) d := by
  unfold conv mat
  pointwise [hOf, k0_pay1, k0_pay4, rowsOf]

/-- Row `i` of what the kernel makes of a block of `h`: the shares of the opened distances. -/
theorem share_at (H : Vec Ideal S400x32 .f32) (i : Fin 400) (c : Fin 10) :
    shapeCast S400x10 (k0_pay3 M (k0_pay5 M) H) cast_q (ix2 i c) = soft (fun e => opened (fun d => H (ix2 i d)) (mat M e)) c := by
  unfold soft opened weight mat
  pointwise [k0_pay3, k0_pay5]
  rw [two_word]
theorem qOf_at (b : Fin 25) (i : Fin 400) (c : Fin 10) :
    qOf X A W B M b (ix2 i c) = soft (fun e => opened (conv (mat X) (mat A) (mat W) (fun e => B (ix2 0 e)) (rowAt b i)) (mat M e)) c := by
  unfold qOf
  rw [share_at]
  simp only [hOf_at]

/-- The stacked blocks, at a row. -/
theorem stack_hOf (r : Fin 10000) (d : Fin 32) :
    stack (hOf X A W B) (ix2 r d) = conv (mat X) (mat A) (mat W) (fun e => B (ix2 0 e)) r d := by
  rw [stack_at (hOf X A W B) (rowBlk r) (ix2 r d) (ix2 (rowIn r) d) (rowIn r) rfl (rowAt_of r).symm rfl, hOf_at, rowAt_of]
theorem stack_qOf (r : Fin 10000) (c : Fin 10) :
    stack (qOf X A W B M) (ix2 r c) = soft (fun e => opened (conv (mat X) (mat A) (mat W) (fun e => B (ix2 0 e)) r) (mat M e)) c := by
  rw [stack_at (qOf X A W B M) (rowBlk r) (ix2 r c) (ix2 (rowIn r) c) (rowIn r) rfl (rowAt_of r).symm rfl, qOf_at, rowAt_of]
end Blocks

/-! ## The kernel's results -/

section Kernel
variable (m : (ℓ : Loc nD τ sig) → Buf (Elt Ideal) ℓ) (c : Dev nD)

/-- The bias as the kernel reads it is the argument, one row. -/
theorem bias_at (d : Fin 32) :
    (show Vec Ideal S1x32 .f32 from V m c main_call0_v0) (ix2 0 d) = vec (m ((c : Thread nD τ).loc main_arg3)) d := by
  have e : (V m c main_call0_v0 : Vec Ideal S1x32 .f32) = shapeCast S1x32 (m ((c : Thread nD τ).loc main_arg3) : Vec Ideal S32 .f32) shapeCasts_S32_S1x32 := by
    rfl
  show (V m c main_call0_v0 : Vec Ideal S1x32 .f32) (ix2 0 d) = _
  rw [e]
  unfold vec
  pointwise

theorem hFinal_at (r : Fin 10000) (d : Fin 32) :
    (show Vec Ideal S10000x32 .f32 from hFinal m c) (ix2 r d)
      = conv (mat (m ((c : Thread nD τ).loc main_arg0))) (mat (m ((c : Thread nD τ).loc main_arg1))) (mat (m ((c : Thread nD τ).loc main_arg2)))
          (vec (m ((c : Thread nD τ).loc main_arg3))) r d := by
  unfold hFinal
  refine (stack_hOf _ _ _ _ r d).trans ?_
  rw [V_main_arg0, V_main_arg1, V_main_arg2, show (fun e => (V m c main_call0_v0 : Vec Ideal S1x32 .f32) (ix2 0 e)) = _ from funext (bias_at m c)]
theorem qFinal_at (r : Fin 10000) (e : Fin 10) :
    (show Vec Ideal S10000x10 .f32 from qFinal m c) (ix2 r e)
      = soft (fun e => opened (conv (mat (m ((c : Thread nD τ).loc main_arg0))) (mat (m ((c : Thread nD τ).loc main_arg1))) (mat (m ((c : Thread nD τ).loc main_arg2)))
          (vec (m ((c : Thread nD τ).loc main_arg3))) r) (mat (m ((c : Thread nD τ).loc main_arg4)) e)) e := by
  unfold qFinal
  refine (stack_qOf _ _ _ _ _ r e).trans ?_
  rw [V_main_arg0, V_main_arg1, V_main_arg2, V_main_arg4, show (fun e => (V m c main_call0_v0 : Vec Ideal S1x32 .f32) (ix2 0 e)) = _ from funext (bias_at m c)]
end Kernel

end Cert.Proof.KernelValues

end
-- ==== Proof.ReferenceValues.lean ====
/-
  THE REFERENCE'S RESULTS, entry by entry, as the mathematics of Algebra.lean.
-/
module

public import proofs.«01_k».proof.Proof.Algebra
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.ReferenceValues

open Cert.ReferenceIdeal Cert.ReferenceIdeal.Gen Cert.Proof.Algebra
open Idealize.ShloMosaic
open Idealize.ShloMosaic.TcCoe Idealize.ShloMosaic.Tactic

variable (m : (ℓ : Loc nD τ sig) → Buf (Elt Ideal) ℓ) (c : Dev nD)

/-- The first result's composed term, named. -/
abbrev hTerm : FVec Ideal S10000x32 .f32 :=
  addf (Host.dotGeneral (φ₁ := .f32) (φ₂ := .f32) dot_S10000x10000_S10000x32_S10000x32_1_0_0_1_n_n none (m ((c : Thread nD τ).loc main_arg1) : FVec Ideal S10000x10000 .f32)
      (Host.dotGeneral (φ₁ := .f32) (φ₂ := .f32) dot_S10000x128_S128x32_S10000x32_1_0_0_1_n_n none (m ((c : Thread nD τ).loc main_arg0) : FVec Ideal S10000x128 .f32) (m ((c : Thread nD τ).loc main_arg2) : FVec Ideal S128x32 .f32)))
    (broadcastInDim S10000x32 ![0, 1] bcast_S1x32_S10000x32_0_1 (broadcastInDim S1x32 ![1] bcast_S32_S1x32_1 (m ((c : Thread nD τ).loc main_arg3) : FVec Ideal S32 .f32)))

/-- An entry of the first result; -/
theorem hTerm_at (r : Fin 10000) (d : Fin 32) :
    hTerm m c (ix2 r d)
      = conv (mat (m ((c : Thread nD τ).loc main_arg0))) (mat (m ((c : Thread nD τ).loc main_arg1)))
          (mat (m ((c : Thread nD τ).loc main_arg2))) (vec (m ((c : Thread nD τ).loc main_arg3))) r d := by
  unfold hTerm conv mat vec
  clean_types
  pointwise
/-- of the second. -/
theorem qTerm_at (r : Fin 10000) (e : Fin 10) :
    (show Vec Ideal S10000x10 .f32 from Cert.ReferenceIdeal.Value.res_out1 m c) (ix2 r e)
      = soft (fun e => direct (conv (mat (m ((c : Thread nD τ).loc main_arg0))) (mat (m ((c : Thread nD τ).loc main_arg1)))
          (mat (m ((c : Thread nD τ).loc main_arg2))) (vec (m ((c : Thread nD τ).loc main_arg3))) r)
          (mat (m ((c : Thread nD τ).loc main_arg4)) e)) e := by
  unfold Cert.ReferenceIdeal.Value.res_out1 Cert.ReferenceIdeal.Value.res_main_v27 soft direct weight conv mat vec
  clean_types
  pointwise

end Cert.Proof.ReferenceValues

end
-- ==== Proof.Finish.lean ====
/-
  THE CLAIMS, each from its parts: the ideal programs' runs (arguments unchanged, every semaphore at rest), and the
  equality of the kernel's two results with the reference's over the extended reals.
-/
module

public import proofs.«01_k».proof.Proof.Gen.Pre_finite
public import proofs.«01_k».proof.Proof.KernelValues
public import proofs.«01_k».proof.Proof.ReferenceValues

@[expose] public section

set_option maxRecDepth 16384

noncomputable section

namespace Cert.Proof

open Idealize.ShloMosaic Idealize.ShloMosaic.TcCoe Idealize.SL.Sem
open Cert.Proof.Algebra

/-! ## The programs run -/

/-- The ideal kernel; -/
theorem frame_ideal : Cert.quiescent_KernelIdeal := fun m g _ =>
  (θ_run _ _ _).mono (fun _ h => ⟨fun c => (h.1 c).2, h.2⟩) (Cert.Proof.KernelIdeal.run_main m g)
theorem frame_ideal_finite : Cert.quiescent_KernelIdeal_pre_finite := fun m g _ => frame_ideal m g trivial
/-- the reference, which has no semaphore at all. -/
theorem frame_reference : Cert.quiescent_ReferenceIdeal := fun m g _ =>
  (θ_run _ _ _).mono (fun _ h => ⟨fun c => (h c).2.2, funext fun s => by
    obtain ⟨_, ⟨_, hn⟩ | ⟨_, hn⟩⟩ := s
    · exact absurd hn (Nat.not_lt_zero _)
    · exact absurd hn (Nat.not_lt_zero _)⟩) (Cert.ReferenceIdeal.Value.run m g)

/-! ## The results agree -/

section Agree
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
include e0 e1 e2 e3

/-- `h` is the same; -/
theorem h_agrees : ReferenceValues.hTerm m' c = Cert.Proof.KernelIdeal.hFinal m c := by
  funext y
  rw [eq_ix2 y]
  refine (ReferenceValues.hTerm_at m' c (y 0) (y 1)).trans (Eq.trans ?_ (KernelValues.hFinal_at m c (y 0) (y 1)).symm)
  rw [e0, e1, e2, e3]

include e4
/-- so is `q`. -/
theorem q_agrees : Cert.ReferenceIdeal.Value.res_out1 m' c = Cert.Proof.KernelIdeal.qFinal m c := by
  funext y
  rw [eq_ix2 y]
  refine (ReferenceValues.qTerm_at m' c (y 0) (y 1)).trans (Eq.trans ?_ (KernelValues.qFinal_at m c (y 0) (y 1)).symm)
  rw [e0, e1, e2, e3, e4]
  exact (congrFun (soft_congr fun e => weight_opened _ _) (y 1)).symm
end Agree

/-- From equal arguments both run to equal results. -/
theorem values_agree : Cert.algebraic_KernelIdeal_ReferenceIdeal := fun m g m' g' _ hargs =>
  ⟨Cert.Proof.KernelIdeal.hFinal m, Cert.Proof.KernelIdeal.qFinal m,
    (θ_run _ _ _).mono (fun _ h c => ⟨(h.1 c).1.1, (h.1 c).1.2, (h.1 c).2⟩) (Cert.Proof.KernelIdeal.run_main m g),
    (θ_run _ _ _).mono (fun _ h c =>
      ⟨(h c).1.trans (h_agrees m m' c (hargs c).1 (hargs c).2.1 (hargs c).2.2.1 (hargs c).2.2.2.1),
       (h c).2.1.trans (q_agrees m m' c (hargs c).1 (hargs c).2.1 (hargs c).2.2.1 (hargs c).2.2.2.1 (hargs c).2.2.2.2), (h c).2.2⟩)
      (Cert.ReferenceIdeal.Value.run m' g')⟩

end Cert.Proof

end
-- ==== Proof.Finite.lean ====
/-
  WHAT THE PRECONDITION SAYS: where `finite` of the arguments is all ones, every entry of every argument is a real
  number.
-/
module

public import proofs.«01_k».proof.Defs
public import proofs.«01_k».proof.Proof.Gen.Pre_finite
public import proofs.«01_k».proof.Proof.Algebra
public import Idealize.ShloMosaic.Lib.ReduceAll
public import Idealize.ShloMosaic.Lib.Affine

@[expose] public section

set_option maxRecDepth 16384

noncomputable section

namespace Cert.Proof.Finite

open Cert.Pre_finite Cert.Pre_finite.Gen Cert.Proof.Algebra
open Idealize.ShloMosaic

instance : Subsingleton S_.Idx := ⟨fun a b => funext fun i => i.elim0⟩

/-- One argument's test: its reduction at one means that each entry is real. -/
theorem entries {s : Shape} {axes : List (Fin s.rank)}
    (x : FVec Ideal s .f32) (dims : Fin 0 → Fin s.rank) (hb : S_.BroadcastsInDim s dims) (h : s.ReducesTo axes S_) (hu : 0 < S_.numel)
    (j : S_.Idx)
    (e : Host.reduce IntOp.andi (cmpf .olt (Host.absf x) (broadcastInDim s dims hb (constant (F := Ideal) S_ .f32 0x7F800000#32))) (constantI S_ 1 1#1) h hu j = 1#1) (i : s.Idx) :
    IsReal (x i) := by
  have e1 := Host.reduce_andi_all _ _ _ _ j e i
  have e2 : BitVec.ofBool (decide (max (x i) (-(x i)) < Ideal.ofBits .f32 0x7F800000#32)) = 1#1 := e1
  rw [top_word] at e2
  refine isReal_of_abs_lt (of_decide_eq_true ?_)
  generalize decide (max (x i) (-(x i)) < ⊤) = p at e2 ⊢
  revert e2
  cases p <;> decide

/-- The precondition, entry by entry. -/
theorem args_real (X : FVec Ideal S10000x128 .f32) (A : FVec Ideal S10000x10000 .f32) (W : FVec Ideal S128x32 .f32) (b : FVec Ideal S32 .f32) (M : FVec Ideal S10x32 .f32)
    (h : Cert.Pre_finite.fn (F := Ideal) X A W b M = fun _ => 1#1) :
    (∀ i, IsReal (X i)) ∧ (∀ i, IsReal (A i)) ∧ (∀ i, IsReal (W i)) ∧ (∀ i, IsReal (b i)) ∧ (∀ i, IsReal (M i)) := by
  have e := congrFun h (Shape.Idx.first h_S_)
  simp only [Cert.Pre_finite.fn, Cert.Pre_finite.fn_part1, andi, IntOp.andi_eq_one] at e
  obtain ⟨⟨⟨⟨e0, e1⟩, e2⟩, e3⟩, e4⟩ := e
  exact ⟨entries X _ _ _ _ _ e0, entries A _ _ _ _ _ e1, entries W _ _ _ _ _ e2, entries b _ _ _ _ _ e3, entries M _ _ _ _ _ e4⟩

end Cert.Proof.Finite

end
-- ==== Proof.Shares.lean ====
/-
  THE ROWS OF `q` ARE DISTRIBUTIONS: on real arguments no entry of the kernel's second result is negative, and each of its
  rows adds up to one.
-/
module

public import proofs.«01_k».proof.Defs
public import proofs.«01_k».proof.Proof.Gen.Post_shares
public import proofs.«01_k».proof.Proof.KernelValues
public import proofs.«01_k».proof.Proof.Finite
public import Idealize.ShloMosaic.Lib.ReduceAll
public import Idealize.ShloMosaic.Lib.Pointwise

@[expose] public section

set_option maxRecDepth 16384

noncomputable section

namespace Cert.Proof

open Idealize.ShloMosaic Idealize.ShloMosaic.TcCoe Idealize.SL.Sem
open Cert.Proof.Algebra

/-- A true test is the bit one. -/
theorem bit_one {p : Prop} [Decidable p] (h : p) : BitVec.ofBool (decide p) = 1#1 := by
  rw [decide_eq_true h]
  rfl

open Cert.Post_shares Cert.Post_shares.Gen in
/-- What the test `shares` asks, from the same of each row. -/
theorem shares_of_rows (X : FVec Ideal S10000x128 .f32) (A : FVec Ideal S10000x10000 .f32) (W : FVec Ideal S128x32 .f32) (b : FVec Ideal S32 .f32) (M : FVec Ideal S10x32 .f32)
    (h : FVec Ideal S10000x32 .f32) (q : FVec Ideal S10000x10 .f32)
    (h0 : ∀ r e, (0 : EReal) ≤ q (ix2 r e)) (h1 : ∀ r, ∑ e, q (ix2 r e) = (1 : EReal)) :
    Cert.Post_shares.fn (F := Ideal) X A W b M h q = fun _ => 1#1 := by
  funext j
  simp only [Cert.Post_shares.fn, andi, IntOp.andi_eq_one]
  refine ⟨Host.reduce_andi_one _ _ _ _ _ rfl fun i => ?_, Host.reduce_andi_one _ _ _ _ _ rfl fun i => ?_⟩
  · have e : Ideal.ofBits .f32 0x00000000#32 ≤ q i := by
      rw [show Ideal.ofBits .f32 0x00000000#32 = 0 by simp [Ideal.ofBits, Ideal.ieee], eq_ix2 i]
      exact h0 (i 0) (i 1)
    exact bit_one e
  · have e : Host.reduceAdd q (constant (F := Ideal) S_ .f32 0x00000000#32) reducesTo_S10000x10_S10000_d1 h_S_ i = Ideal.ofBits .f32 0x3F800000#32 := by
      rw [one_word, ← h1 (i 0)]
      pointwise
    exact bit_one e

/-- The claim of the rows. -/
theorem rows_are_shares : Cert.holds_KernelIdeal_shares_pre_finite := fun m g hpre => by
  refine (θ_run _ _ _).mono (fun r h c => ?_) (Cert.Proof.KernelIdeal.run_main m g)
  obtain ⟨⟨eh, eq⟩, e0, e1, e2, e3, e4⟩ := h.1 c
  refine ⟨e0, e1, e2, e3, e4, ?_⟩
  obtain ⟨hX, hA, hW, hb, hM⟩ := Finite.args_real _ _ _ _ _ (hpre c)
  rw [eq]
  have hs : ∀ r : Fin 10000, _ := fun r => soft_shares (by decide : 0 < 10) (z := fun e => opened (conv (mat (m ((c.tc : Thread Cert.KernelIdeal.nD Cert.KernelIdeal.τ).loc Cert.KernelIdeal.main_arg0)))
      (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg2)))
      (vec (m ((c.tc : Thread Cert.KernelIdeal.nD Cert.KernelIdeal.τ).loc Cert.KernelIdeal.main_arg3))) r)
      (mat (m ((c.tc : Thread Cert.KernelIdeal.nD Cert.KernelIdeal.τ).loc Cert.KernelIdeal.main_arg4)) e)) fun e => by
    obtain ⟨z, hz, ez⟩ := direct_real (conv_isReal (fun _ _ => hX _) (fun _ _ => hA _) (fun _ _ => hW _) (fun _ => hb _) r) fun _ => hM (ix2 e _)
    obtain ⟨w, hw, ew⟩ := weight_pos hz
    refine ⟨w, hw, ?_⟩
    rw [weight_opened, ← ew]
    exact congrArg weight ez
  refine shares_of_rows _ _ _ _ _ _ _ (fun r e => ?_) fun r => ?_
  · exact ((hs r).1 e).trans (KernelValues.qFinal_at m c r e).symm.le
  · exact (Finset.sum_congr rfl fun e _ => KernelValues.qFinal_at m c r e).trans (hs r).2

end Cert.Proof

end
-- ==== Proof.lean ====
/-
  THE CLAIMS PROVED: both kernel programs and the reference run, leave their arguments as they were and every semaphore
  at rest; over the extended reals the kernel's two results are the reference's, and on real
  arguments each row of `q` is a distribution over the clusters.
-/
module

public import proofs.«01_k».proof.Defs
public import proofs.«01_k».proof.Proof.Gen.ReferenceIdeal.Run
public import proofs.«01_k».proof.Proof.Gen.Pre_finite
public import proofs.«01_k».proof.Proof.Gen.Post_shares
public import proofs.«01_k».proof.Proof.Gen.Kernel
public import proofs.«01_k».proof.Proof.Gen.KernelIdeal
public import proofs.«01_k».proof.Proof.Same
public import proofs.«01_k».proof.Proof.Finish
public import proofs.«01_k».proof.Proof.Shares

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts, Cert.Post_shares.Gen.facts,
    frame_kernel, frame_ideal, frame_ideal_finite, frame_reference, trivial, values_agree, rows_are_shares⟩

end Cert.Proof

end
